-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0))).1 = (fun _ => 1#1)
    ∧ (Cert.Pre_finite_qkv.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0))).1 = (fun _ => 1#1)
    ∧ (Cert.Pre_finite_qkv.fn (F := Ideal) (m ((c.tc : Thread Cert.ReferenceIdeal.nD Cert.ReferenceIdeal.τ).loc Cert.ReferenceIdeal.main_arg0))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_mix [hPre_finite_mix : Cert.Pre_finite_mix.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).1 = (fun _ => 1#1)
    ∧ (Cert.Pre_finite_mix.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_mix [hPre_finite_mix : Cert.Pre_finite_mix.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).1 = (fun _ => 1#1)
    ∧ (Cert.Pre_finite_mix.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Kernel3Ideal_pre_finite_mix [hKernel3Ideal : Cert.Kernel3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_mix m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Reference3Ideal_pre_finite_mix [hReference3Ideal : Cert.Reference3Ideal.Facts] [hPre_finite_mix : Cert.Pre_finite_mix.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_mix m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_v126) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite_mix [hKernel3Ideal : Cert.Kernel3Ideal.Facts] [hReference3Ideal : Cert.Reference3Ideal.Facts] [hPre_finite_mix : Cert.Pre_finite_mix.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_mix m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v97) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qkv : Cert.Pre_finite_qkv.Facts) (hPre_finite_mix : Cert.Pre_finite_mix.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_mix (hKernel3Ideal := hKernel3Ideal) (hPre_finite_mix := hPre_finite_mix)
    ∧ quiescent_Reference3Ideal (hReference3Ideal := hReference3Ideal)
    ∧ quiescent_Reference3Ideal_pre_finite_mix (hReference3Ideal := hReference3Ideal) (hPre_finite_mix := hPre_finite_mix)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_mix (hKernel3Ideal := hKernel3Ideal) (hReference3Ideal := hReference3Ideal) (hPre_finite_mix := hPre_finite_mix)
    ∧ preserves_Kernel4_Kernel4Ideal
    ∧ algebraic_Kernel4Ideal_Reference4Ideal (hKernel4Ideal := hKernel4Ideal) (hReference4Ideal := hReference4Ideal)
-- ==== Pre_finite_mix.lean ====
abbrev S1x8192x2048 : Shape := ⟨3, ![1, 8192, 2048]⟩
abbrev S4x8192x128 : Shape := ⟨3, ![4, 8192, 128]⟩
abbrev S4x8192 : Shape := ⟨2, ![4, 8192]⟩
abbrev S8192x512 : Shape := ⟨2, ![8192, 512]⟩
abbrev S2048x2048 : Shape := ⟨2, ![2048, 2048]⟩
abbrev S2048 : Shape := ⟨1, ![2048]⟩
abbrev S2048x512 : Shape := ⟨2, ![2048, 512]⟩
abbrev S128 : Shape := ⟨1, ![128]⟩
abbrev S256x512 : Shape := ⟨2, ![256, 512]⟩
abbrev S512x2048 : Shape := ⟨2, ![512, 2048]⟩
abbrev S_ : Shape := ⟨0, ![]⟩

class Facts : Prop where
  bcast_S_S128 : S_.BroadcastsInDim S128 (![] : Fin 0 → Fin S128.rank)
  bcast_S_S256x512 : S_.BroadcastsInDim S256x512 (![] : Fin 0 → Fin S256x512.rank)

variable [Facts]

def fn {F : FTy → Type} [FloatOps F] (main_arg0 : FVec F S1x8192x2048 .f32) (main_arg1 : FVec F S4x8192x128 .f32) (main_arg2 : FVec F S4x8192x128 .f32) (main_arg3 : FVec F S4x8192x128 .f32) (main_arg4 : FVec F S4x8192 .f32) (main_arg5 : FVec F S4x8192 .f32) (main_arg6 : FVec F S4x8192 .f32) (main_arg7 : FVec F S8192x512 .f32) (main_arg8 : FVec F S2048x2048 .f32) (main_arg9 : FVec F S2048 .f32) (main_arg10 : FVec F S2048x512 .f32) (main_arg11 : FVec F S128 .f32) (main_arg12 : FVec F S256x512 .f32) (main_arg13 : FVec F S256x512 .f32) (main_arg14 : FVec F S512x2048 .f32) : IVec S128 1 × IVec S256x512 1 :=
  let main_v0 : FVec F S128 .f32 := Host.absf main_arg11
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S256x512 .f32 := Host.absf main_arg12
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  (main_v2, main_v5)
-- ==== Pre_finite_qkv.lean ====
abbrev S36x8192x128 : Shape := ⟨3, ![36, 8192, 128]⟩
abbrev S4x8192x128 : Shape := ⟨3, ![4, 8192, 128]⟩
abbrev S_ : Shape := ⟨0, ![]⟩

class Facts : Prop where
  slices_S36x8192x128_S4x8192x128_0_0_0 : S36x8192x128.Slices ![0, 0, 0] S4x8192x128
  slices_S36x8192x128_S4x8192x128_12_0_0 : S36x8192x128.Slices ![12, 0, 0] S4x8192x128
  bcast_S_S4x8192x128 : S_.BroadcastsInDim S4x8192x128 (![] : Fin 0 → Fin S4x8192x128.rank)

variable [Facts]

def fn {F : FTy → Type} [FloatOps F] (main_arg0 : FVec F S36x8192x128 .f32) : IVec S4x8192x128 1 × IVec S4x8192x128 1 :=
  let main_v0 : FVec F S4x8192x128 .f32 := (extractStridedSlice S4x8192x128 ![0, 0, 0] · slices_S36x8192x128_S4x8192x128_0_0_0) main_arg0
  let main_v1 : FVec F S4x8192x128 .f32 := (extractStridedSlice S4x8192x128 ![12, 0, 0] · slices_S36x8192x128_S4x8192x128_12_0_0) main_arg0
  let main_v2 : FVec F S4x8192x128 .f32 := Host.absf main_v0
  let main_cst : FVec F S_ .f32 := constant S_ .f32 0x7F800000#32
  let main_v3 : FVec F S4x8192x128 .f32 := broadcastInDim S4x8192x128 ![] bcast_S_S4x8192x128 main_cst
  let main_v4 : IVec S4x8192x128 1 := cmpf .olt main_v2 main_v3
  let main_v5 : FVec F S4x8192x128 .f32 := Host.absf main_v1
  let main_cst_0 : FVec F S_ .f32 := constant S_ .f32 0x7F800000#32
  let main_v6 : FVec F S4x8192x128 .f32 := broadcastInDim S4x8192x128 ![] bcast_S_S4x8192x128 main_cst_0
  let main_v7 : IVec S4x8192x128 1 := cmpf .olt main_v5 main_v6
  (main_v4, main_v7)
-- ==== Kernel.lean ====
abbrev S36x8192x128 : Shape := ⟨3, ![36, 8192, 128]⟩
abbrev S4x8192x128 : Shape := ⟨3, ![4, 8192, 128]⟩
abbrev S4x128x128 : Shape := ⟨3, ![4, 128, 128]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 3
  | .vmem => 12
  | .smem => 0
  | _ => 0

abbrev bufTy : (tb : Table) → Fin (tcTables nBuf tb) → BufTy
  | .hbm, ⟨0, _⟩ => ⟨S36x8192x128, .f32⟩
  | .hbm, ⟨1, _⟩ => ⟨S4x8192x128, .f32⟩
  | .hbm, ⟨2, _⟩ => ⟨S4x8192x128, .f32⟩
  | .local _ .vmem, ⟨0, _⟩ => ⟨S4x128x128, .f32⟩
  | .local _ .vmem, ⟨1, _⟩ => ⟨S4x128x128, .f32⟩
  | .local _ .vmem, ⟨2, _⟩ => ⟨S4x128x128, .f32⟩
  | .local _ .vmem, ⟨3, _⟩ => ⟨S4x128x128, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | .local _ .vmem, ⟨7, _⟩ => ⟨S4x128x128, .f32⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S4x128x128, .f32⟩
  | _, _ => ⟨S36x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S36x8192x128 : Shape := ⟨3, ![36, 8192, 128]⟩
abbrev S4x8192x128 : Shape := ⟨3, ![4, 8192, 128]⟩
abbrev S8192x4x128 : Shape := ⟨3, ![8192, 4, 128]⟩
abbrev S1x8192x4x128 : Shape := ⟨4, ![1, 8192, 4, 128]⟩
abbrev S1x8192x1x4x128 : Shape := ⟨5, ![1, 8192, 1, 4, 128]⟩
abbrev S1x1x8192x4x128 : Shape := ⟨5, ![1, 1, 8192, 4, 128]⟩
abbrev S_ : Shape := ⟨0, ![]⟩
abbrev S1x64x128x4x128 : Shape := ⟨5, ![1, 64, 128, 4, 128]⟩
abbrev S1x8320x4x128 : Shape := ⟨4, ![1, 8320, 4, 128]⟩
abbrev S1x65x128x4x128 : Shape := ⟨5, ![1, 65, 128, 4, 128]⟩
abbrev S1x64x256x4x128 : Shape := ⟨5, ![1, 64, 256, 4, 128]⟩
abbrev S1x64x4x128x256 : Shape := ⟨5, ![1, 64, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x128x256 : Shape := ⟨5, ![1, 64, 1, 128, 256]⟩
abbrev S1x64x4x128 : Shape := ⟨4, ![1, 64, 4, 128]⟩
abbrev S1x64x4x128x1 : Shape := ⟨5, ![1, 64, 4, 128, 1]⟩
abbrev S1x64x4x128x128 : Shape := ⟨5, ![1, 64, 4, 128, 128]⟩
abbrev S1x64x128x4 : Shape := ⟨4, ![1, 64, 128, 4]⟩
abbrev S1x1x8192x4 : Shape := ⟨4, ![1, 1, 8192, 4]⟩
abbrev S1x8192x1x4 : Shape := ⟨4, ![1, 8192, 1, 4]⟩
abbrev S1x8192x4 : Shape := ⟨3, ![1, 8192, 4]⟩
abbrev S8192x4 : Shape := ⟨2, ![8192, 4]⟩
abbrev S4x8192 : Shape := ⟨2, ![4, 8192]⟩
abbrev S4x8192x1 : Shape := ⟨3, ![4, 8192, 1]⟩

abbrev nBuf : Space → Nat
  | .hbm => 118
  | .vmem => 0
  | .smem => 0
  | _ => 0

abbrev bufTy : (tb : Table) → Fin (tcTables nBuf tb) → BufTy
  | .hbm, ⟨0, _⟩ => ⟨S36x8192x128, .f32⟩
  | .hbm, ⟨1, _⟩ => ⟨S4x8192x128, .f32⟩
  | .hbm, ⟨2, _⟩ => ⟨S8192x4x128, .f32⟩
  | .hbm, ⟨3, _⟩ => ⟨S1x8192x4x128, .f32⟩
  | .hbm, ⟨4, _⟩ => ⟨S4x8192x128, .f32⟩
  | .hbm, ⟨5, _⟩ => ⟨S8192x4x128, .f32⟩
  | .hbm, ⟨6, _⟩ => ⟨S1x8192x4x128, .f32⟩
  | .hbm, ⟨7, _⟩ => ⟨S4x8192x128, .f32⟩
  | .hbm, ⟨8, _⟩ => ⟨S8192x4x128, .f32⟩
  | .hbm, ⟨9, _⟩ => ⟨S1x8192x4x128, .f32⟩
  | .hbm, ⟨10, _⟩ => ⟨S1x8192x1x4x128, .f32⟩
  | .hbm, ⟨11, _⟩ => ⟨S1x1x8192x4x128, .f32⟩
  | .hbm, ⟨12, _⟩ => ⟨S1x8192x4x128, .f32⟩
  | .hbm, ⟨13, _⟩ => ⟨S_, .i32⟩
  | .hbm, ⟨14, _⟩ => ⟨S_, .f32⟩
  | .hbm, ⟨15, _⟩ => ⟨S1x8192x4x128, .f32⟩
  | .hbm, ⟨16, _⟩ => ⟨S1x64x128x4x128, .f32⟩
  | .hbm, ⟨17, _⟩ => ⟨S1x8192x1x4x128, .f32⟩
  | .hbm, ⟨18, _⟩ => ⟨S1x1x8192x4x128, .f32⟩
  | .hbm, ⟨19, _⟩ => ⟨S1x8192x4x128, .f32⟩
  | .hbm, ⟨20, _⟩ => ⟨S_, .i32⟩
  | .hbm, ⟨21, _⟩ => ⟨S_, .f32⟩
  | .hbm, ⟨22, _⟩ => ⟨S1x8192x4x128, .f32⟩
  | .hbm, ⟨23, _⟩ => ⟨S_, .i32⟩
  | .hbm, ⟨24, _⟩ => ⟨S_, .f32⟩
  | .hbm, ⟨25, _⟩ => ⟨S1x8320x4x128, .f32⟩
  | .hbm, ⟨26, _⟩ => ⟨S1x65x128x4x128, .f32⟩
  | .hbm, ⟨27, _⟩ => ⟨S1x64x128x4x128, .f32⟩
  | .hbm, ⟨28, _⟩ => ⟨S1x64x128x4x128, .f32⟩
  | .hbm, ⟨29, _⟩ => ⟨S1x64x256x4x128, .f32⟩
  | .hbm, ⟨30, _⟩ => ⟨S1x8192x1x4x128, .f32⟩
  | .hbm, ⟨31, _⟩ => ⟨S1x1x8192x4x128, .f32⟩
  | .hbm, ⟨32, _⟩ => ⟨S1x8192x4x128, .f32⟩
  | .hbm, ⟨33, _⟩ => ⟨S_, .i32⟩
  | .hbm, ⟨34, _⟩ => ⟨S_, .f32⟩
  | .hbm, ⟨35, _⟩ => ⟨S1x8192x4x128, .f32⟩
  | .hbm, ⟨36, _⟩ => ⟨S_, .i32⟩
  | .hbm, ⟨37, _⟩ => ⟨S_, .f32⟩
  | .hbm, ⟨38, _⟩ => ⟨S1x8320x4x128, .f32⟩
  | .hbm, ⟨39, _⟩ => ⟨S1x65x128x4x128, .f32⟩
  | .hbm, ⟨40, _⟩ => ⟨S1x64x128x4x128, .f32⟩
  | .hbm, ⟨41, _⟩ => ⟨S1x64x128x4x128, .f32⟩
  | .hbm, ⟨42, _⟩ => ⟨S1x64x256x4x128, .f32⟩
  | .hbm, ⟨43, _⟩ => ⟨S1x64x4x128x256, .f32⟩
  | .hbm, ⟨44, _⟩ => ⟨S_, .f32⟩
  | .hbm, ⟨45, _⟩ => ⟨S1x64x4x128x256, .f32⟩
  | .hbm, ⟨46, _⟩ => ⟨S1x64x4x128x256, .f32⟩
  | .hbm, ⟨47, _⟩ => ⟨S128, .i32⟩
  | .hbm, ⟨48, _⟩ => ⟨S128x1, .i32⟩
  | .hbm, ⟨49, _⟩ => ⟨S256, .i32⟩
  | .hbm, ⟨50, _⟩ => ⟨S1x256, .i32⟩
  | .hbm, ⟨51, _⟩ => ⟨S_, .i32⟩
  | .hbm, ⟨52, _⟩ => ⟨S128x1, .i32⟩
  | .hbm, ⟨53, _⟩ => ⟨S128x1, .i32⟩
  | .hbm, ⟨54, _⟩ => ⟨S128x256, .i32⟩
  | .hbm, ⟨55, _⟩ => ⟨S128x256, .i32⟩
  | .hbm, ⟨56, _⟩ => ⟨S128x256, .i32⟩
  | .hbm, ⟨57, _⟩ => ⟨S64, .i32⟩
  | .hbm, ⟨58, _⟩ => ⟨S64x1x1, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .i32⟩
  | .hbm, ⟨63, _⟩ => ⟨S128x256, .i32⟩
  | .hbm, ⟨64, _⟩ => ⟨S128x256, .i1⟩
  | .hbm, ⟨65, _⟩ => ⟨S128x256, .i1⟩
  | .hbm, ⟨66, _⟩ => ⟨S_, .i32⟩
  | .hbm, ⟨67, _⟩ => ⟨S64x1x1, .i32⟩
  | .hbm, ⟨68, _⟩ => ⟨S64x1x1, .i32⟩
  | .hbm, ⟨69, _⟩ => ⟨S1x1x256, .i32⟩
  | .hbm, ⟨70, _⟩ => ⟨S64x1x256, .i32⟩
  | .hbm, ⟨71, _⟩ => ⟨S64x1x256, .i32⟩
  | .hbm, ⟨72, _⟩ => ⟨S64x1x256, .i32⟩
  | .hbm, ⟨73, _⟩ => ⟨S_, .i32⟩
  | .hbm, ⟨74, _⟩ => ⟨S64x1x256, .i32⟩
  | .hbm, ⟨75, _⟩ => ⟨S64x1x256, .i32⟩
  | .hbm, ⟨76, _⟩ => ⟨S_, .i32⟩
  | .hbm, ⟨77, _⟩ => ⟨S64x1x256, .i32⟩
  | .hbm, ⟨78, _⟩ => ⟨S64x1x256, .i1⟩
  | .hbm, ⟨79, _⟩ => ⟨S1x128x256, .i1⟩
  | .hbm, ⟨80, _⟩ => ⟨S64x128x256, .i1⟩
  | .hbm, ⟨81, _⟩ => ⟨S64x128x256, .i1⟩
  | .hbm, ⟨82, _⟩ => ⟨S64x128x256, .i1⟩
  | .hbm, ⟨83, _⟩ => ⟨S1x64x1x128x256, .i1⟩
  | .hbm, ⟨84, _⟩ => ⟨S_, .f32⟩
  | .hbm, ⟨85, _⟩ => ⟨S_, .f32⟩
  | .hbm, ⟨86, _⟩ => ⟨S1x64x4x128x256, .i1⟩
  | .hbm, ⟨87, _⟩ => ⟨S1x64x4x128x256, .f32⟩
  | .hbm, ⟨88, _⟩ => ⟨S1x64x4x128x256, .f32⟩
  | .hbm, ⟨89, _⟩ => ⟨S_, .f32⟩
  | .hbm, ⟨90, _⟩ => ⟨S1x64x4x128, .f32⟩
  | .hbm, ⟨91, _⟩ => ⟨S1x64x4x128x1, .f32⟩
  | .hbm, ⟨92, _⟩ => ⟨S1x64x4x128x256, .f32⟩
  | .hbm, ⟨93, _⟩ => ⟨S1x64x4x128x256, .f32⟩
  | .hbm, ⟨94, _⟩ => ⟨S1x64x4x128x256, .f32⟩
  | .hbm, ⟨95, _⟩ => ⟨S_, .f32⟩
  | .hbm, ⟨96, _⟩ => ⟨S1x64x4x128, .f32⟩
  | .hbm, ⟨97, _⟩ => ⟨S1x64x4x128x1, .f32⟩
  | .hbm, ⟨98, _⟩ => ⟨S1x64x4x128x256, .f32⟩
  | .hbm, ⟨99, _⟩ => ⟨S1x64x4x128x256, .f32⟩
  | .hbm, ⟨100, _⟩ => ⟨S1x64x4x128x128, .f32⟩
  | .hbm, ⟨101, _⟩ => ⟨S1x64x128x4x128, .f32⟩
  | .hbm, ⟨102, _⟩ => ⟨S1x64x4x128x1, .f32⟩
  | .hbm, ⟨103, _⟩ => ⟨S1x64x4x128x1, .f32⟩
  | .hbm, ⟨104, _⟩ => ⟨S1x64x4x128, .f32⟩
  | .hbm, ⟨105, _⟩ => ⟨S1x64x128x4, .f32⟩
  | .hbm, ⟨106, _⟩ => ⟨S1x1x8192x4x128, .f32⟩
  | .hbm, ⟨107, _⟩ => ⟨S1x8192x1x4x128, .f32⟩
  | .hbm, ⟨108, _⟩ => ⟨S1x8192x4x128, .f32⟩
  | .hbm, ⟨109, _⟩ => ⟨S1x1x8192x4, .f32⟩
  | .hbm, ⟨110, _⟩ => ⟨S1x8192x1x4, .f32⟩
  | .hbm, ⟨111, _⟩ => ⟨S1x8192x4, .f32⟩
  | .hbm, ⟨112, _⟩ => ⟨S8192x4x128, .f32⟩
  | .hbm, ⟨113, _⟩ => ⟨S4x8192x128, .f32⟩
  | .hbm, ⟨114, _⟩ => ⟨S8192x4, .f32⟩
  | .hbm, ⟨115, _⟩ => ⟨S4x8192, .f32⟩
  | .hbm, ⟨116, _⟩ => ⟨S4x8192x1, .f32⟩
  | .hbm, ⟨117, _⟩ => ⟨S4x8192x128, .f32⟩
  | _, _ => ⟨S36x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_c : Ref sig .tc := ⟨.hbm, 13, rfl⟩
abbrev main_call0_v0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_c_0 : Ref sig .tc := ⟨.hbm, 20, rfl⟩
abbrev main_call1_v0 : Ref sig .tc := ⟨.hbm, 21, rfl⟩
abbrev main_v17 : Ref sig .tc := ⟨.hbm, 22, rfl⟩
abbrev main_c_1 : Ref sig .tc := ⟨.hbm, 23, rfl⟩
abbrev main_call2_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_call3_v0 : Ref sig .tc := ⟨.hbm, 34, rfl⟩
abbrev main_v26 : Ref sig .tc := ⟨.hbm, 35, rfl⟩
abbrev main_c_3 : Ref sig .tc := ⟨.hbm, 36, rfl⟩
abbrev main_call4_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_8 : Ref sig .tc := ⟨.hbm, 73, rfl⟩
abbrev main_v57 : Ref sig .tc := ⟨.hbm, 74, rfl⟩
abbrev main_v58 : Ref sig .tc := ⟨.hbm, 75, rfl⟩
abbrev main_c_9 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_call5_v0 : Ref sig .tc := ⟨.hbm, 85, rfl⟩
abbrev main_call5_v1 : Ref sig .tc := ⟨.hbm, 86, rfl⟩
abbrev main_call5_v2 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]
-- ==== Kernel2.lean ====
abbrev S1x8192x2048 : Shape := ⟨3, ![1, 8192, 2048]⟩
abbrev S2048 : Shape := ⟨1, ![2048]⟩
abbrev S2048x5632 : Shape := ⟨2, ![2048, 5632]⟩
abbrev S128 : Shape := ⟨1, ![128]⟩
abbrev S8192x2048 : Shape := ⟨2, ![8192, 2048]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x2048 : Shape := ⟨2, ![1, 2048]⟩
abbrev S1x128 : Shape := ⟨2, ![1, 128]⟩
abbrev S36x8192x128 : Shape := ⟨3, ![36, 8192, 128]⟩
abbrev S8192x512 : Shape := ⟨2, ![8192, 512]⟩
abbrev S1024x2048 : Shape := ⟨2, ![1024, 2048]⟩
abbrev S2048x512 : Shape := ⟨2, ![2048, 512]⟩
abbrev S1024x128 : Shape := ⟨2, ![1024, 128]⟩
abbrev S4x1024x128 : Shape := ⟨3, ![4, 1024, 128]⟩
abbrev S1024x512 : Shape := ⟨2, ![1024, 512]⟩
abbrev S1024 : Shape := ⟨1, ![1024]⟩
abbrev S1024x1 : Shape := ⟨2, ![1024, 1]⟩
abbrev S1x1024x128 : Shape := ⟨3, ![1, 1024, 128]⟩

abbrev nBuf : Space → Nat
  | .hbm => 32
  | .vmem => 18
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x5632, .f32⟩
  | .hbm, ⟨3, _⟩ => ⟨S128, .f32⟩
  | .hbm, ⟨4, _⟩ => ⟨S128, .f32⟩
  | .hbm, ⟨5, _⟩ => ⟨S8192x2048, .f32⟩
  | .hbm, ⟨6, _⟩ => ⟨S2048x5632, .bf16⟩
  | .hbm, ⟨7, _⟩ => ⟨S8192, .i32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S8192, .f32⟩
  | .hbm, ⟨17, _⟩ => ⟨S8192x1, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x128, .f32⟩
  | .hbm, ⟨25, _⟩ => ⟨S8192x64, .f32⟩
  | .hbm, ⟨26, _⟩ => ⟨S8192x128, .f32⟩
  | .hbm, ⟨27, _⟩ => ⟨S1x2048, .f32⟩
  | .hbm, ⟨28, _⟩ => ⟨S1x128, .f32⟩
  | .hbm, ⟨29, _⟩ => ⟨S1x128, .f32⟩
  | .hbm, ⟨30, _⟩ => ⟨S36x8192x128, .f32⟩
  | .hbm, ⟨31, _⟩ => ⟨S8192x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x128, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S4x1024x128, .f32⟩
  | .local _ .vmem, ⟨14, _⟩ => ⟨S4x1024x128, .f32⟩
  | .local _ .vmem, ⟨15, _⟩ => ⟨S1024x512, .f32⟩
  | .local _ .vmem, ⟨16, _⟩ => ⟨S1024x512, .f32⟩
  | .local _ .vmem, ⟨17, _⟩ => ⟨S1024x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c6_i32 : BitVec 32 := 6#32
  let v7 : BitVec 1 := Scalar.cmpi .slt arg1 c6_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c6_i32_5 : BitVec 32 := 6#32
  let v10 : BitVec 1 := Scalar.cmpi .sge arg1 c6_i32_5
  let v11 : BitVec 32 := Scalar.extui v10
  let c0_i32_6 : BitVec 32 := 0#32
  let v12 : BitVec 1 := Scalar.cmpi .ne v11 c0_i32_6
  v12

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c9_i32 : BitVec 32 := 9#32
  let c0_i32_0 : BitVec 32 := 0#32
  ![c0_i32.toNat, c9_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c10_i32 : BitVec 32 := 10#32
  let c0_i32_0 : BitVec 32 := 0#32
  ![c0_i32.toNat, c10_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S1x8192x2048 : Shape := ⟨3, ![1, 8192, 2048]⟩
abbrev S2048 : Shape := ⟨1, ![2048]⟩
abbrev S2048x5632 : Shape := ⟨2, ![2048, 5632]⟩
abbrev S128 : Shape := ⟨1, ![128]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S8192 : Shape := ⟨1, ![8192]⟩
abbrev S1x8192x5632 : Shape := ⟨3, ![1, 8192, 5632]⟩
abbrev S1x8192x1536 : Shape := ⟨3, ![1, 8192, 1536]⟩
abbrev S1x8192x1024 : Shape := ⟨3, ![1, 8192, 1024]⟩
abbrev S1x8192x12x128 : Shape := ⟨4, ![1, 8192, 12, 128]⟩
abbrev S1x8192x12 : Shape := ⟨3, ![1, 8192, 12]⟩
abbrev S1x8192x12x1 : Shape := ⟨4, ![1, 8192, 12, 1]⟩
abbrev S1x1x1x128 : Shape := ⟨4, ![1, 1, 1, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S1x8192x12x64 : Shape := ⟨4, ![1, 8192, 12, 64]⟩
abbrev S1x8192x1x64 : Shape := ⟨4, ![1, 8192, 1, 64]⟩
abbrev S1x8192x512 : Shape := ⟨3, ![1, 8192, 512]⟩
abbrev S1x8192x36x128 : Shape := ⟨4, ![1, 8192, 36, 128]⟩
abbrev S8192x36x128 : Shape := ⟨3, ![8192, 36, 128]⟩
abbrev S36x8192x128 : Shape := ⟨3, ![36, 8192, 128]⟩
abbrev S8192x512 : Shape := ⟨2, ![8192, 512]⟩

abbrev nBuf : Space → Nat
  | .hbm => 147
  | .vmem => 0
  | .smem => 0
  | _ => 0

abbrev hbmTy0_0 (i : Nat) : BufTy := match i % 128 with
  | 0 => ⟨S1x8192x2048, .f32⟩
  | 1 => ⟨S2048, .f32⟩
  | 2 => ⟨S2048x5632, .f32⟩
  | 3 => ⟨S128, .f32⟩
  | 4 => ⟨S128, .f32⟩
  | 5 => ⟨S1x8192x2048, .f32⟩
  | 6 => ⟨S_, .f32⟩
  | 7 => ⟨S1x8192, .f32⟩
  | 8 => ⟨S1x8192x1, .f32⟩
  | 9 => ⟨S_, .f32⟩
  | 10 => ⟨S1x8192x1, .f32⟩
  | 11 => ⟨S1x8192x1, .f32⟩
  | 12 => ⟨S_, .f32⟩
  | 13 => ⟨S1x8192x1, .f32⟩
  | 14 => ⟨S1x8192x1, .f32⟩
  | 15 => ⟨S1x8192x1, .f32⟩
  | 16 => ⟨S1x8192x2048, .f32⟩
  | 17 => ⟨S1x8192x2048, .f32⟩
  | 18 => ⟨S1x1x2048, .f32⟩
  | 19 => ⟨S1x8192x2048, .f32⟩
  | 20 => ⟨S1x8192x2048, .f32⟩
  | 21 => ⟨S8192, .i32⟩
  | 22 => ⟨S1x8192x5632, .f32⟩
  | 23 => ⟨S1x8192x1536, .f32⟩
  | 24 => ⟨S1x8192x1536, .f32⟩
  | 25 => ⟨S1x8192x1536, .f32⟩
  | 26 => ⟨S1x8192x1024, .f32⟩
  | 27 => ⟨S1x8192x12x128, .f32⟩
  | 28 => ⟨S1x8192x12x128, .f32⟩
  | 29 => ⟨S_, .f32⟩
  | 30 => ⟨S1x8192x12, .f32⟩
  | 31 => ⟨S1x8192x12x1, .f32⟩
  | 32 => ⟨S_, .f32⟩
  | 33 => ⟨S1x8192x12x1, .f32⟩
  | 34 => ⟨S1x8192x12x1, .f32⟩
  | 35 => ⟨S_, .f32⟩
  | 36 => ⟨S1x8192x12x1, .f32⟩
  | 37 => ⟨S1x8192x12x1, .f32⟩
  | 38 => ⟨S1x8192x12x1, .f32⟩
  | 39 => ⟨S1x8192x12x128, .f32⟩
  | 40 => ⟨S1x8192x12x128, .f32⟩
  | 41 => ⟨S1x1x1x128, .f32⟩
  | 42 => ⟨S1x8192x12x128, .f32⟩
  | 43 => ⟨S1x8192x12x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S8192, .f32⟩
  | 53 => ⟨S8192x1, .f32⟩
  | 54 => ⟨S1x64, .f32⟩
  | 55 => ⟨S8192x64, .f32⟩
  | 56 => ⟨S8192x64, .f32⟩
  | 57 => ⟨S8192x64, .f32⟩
  | 58 => ⟨S8192x64, .f32⟩
  | 59 => ⟨S8192x1x64, .f32⟩
  | 60 => ⟨S8192x64, .f32⟩
  | 61 => ⟨S8192x1x64, .f32⟩
  | 62 => ⟨S1x8192x12x64, .f32⟩
  | 63 => ⟨S1x8192x12x64, .f32⟩
  | 64 => ⟨S1x8192x1x64, .f32⟩
  | 65 => ⟨S1x8192x12x64, .f32⟩
  | 66 => ⟨S1x8192x12x64, .f32⟩
  | 67 => ⟨S1x8192x1x64, .f32⟩
  | 68 => ⟨S1x8192x12x64, .f32⟩
  | 69 => ⟨S1x8192x12x64, .f32⟩
  | 70 => ⟨S1x8192x12x64, .f32⟩
  | 71 => ⟨S1x8192x1x64, .f32⟩
  | 72 => ⟨S1x8192x12x64, .f32⟩
  | 73 => ⟨S1x8192x12x64, .f32⟩
  | 74 => ⟨S1x8192x1x64, .f32⟩
  | 75 => ⟨S1x8192x12x64, .f32⟩
  | 76 => ⟨S1x8192x12x64, .f32⟩
  | 77 => ⟨S1x8192x12x64, .f32⟩
  | 78 => ⟨S1x8192x12x128, .f32⟩
  | 79 => ⟨S1x8192x12x128, .f32⟩
  | 80 => ⟨S1x8192x12x128, .f32⟩
  | 81 => ⟨S_, .f32⟩
  | 82 => ⟨S1x8192x12, .f32⟩
  | 83 => ⟨S1x8192x12x1, .f32⟩
  | 84 => ⟨S_, .f32⟩
  | 85 => ⟨S1x8192x12x1, .f32⟩
  | 86 => ⟨S1x8192x12x1, .f32⟩
  | 87 => ⟨S_, .f32⟩
  | 88 => ⟨S1x8192x12x1, .f32⟩
  | 89 => ⟨S1x8192x12x1, .f32⟩
  | 90 => ⟨S1x8192x12x1, .f32⟩
  | 91 => ⟨S1x8192x12x128, .f32⟩
  | 92 => ⟨S1x8192x12x128, .f32⟩
  | 93 => ⟨S1x1x1x128, .f32⟩
  | 94 => ⟨S1x8192x12x128, .f32⟩
  | 95 => ⟨S1x8192x12x128, .f32⟩
  | 96 => ⟨S64, .f32⟩
  | 97 => ⟨S64, .f32⟩
  | 98 => ⟨S_, .f32⟩
  | 99 => ⟨S64, .f32⟩
  | 100 => ⟨S64, .f32⟩
  | 101 => ⟨S_, .f32⟩
  | 102 => ⟨S64, .f32⟩
  | 103 => ⟨S64, .f32⟩
  | 104 => ⟨S8192, .f32⟩
  | 105 => ⟨S8192x1, .f32⟩
  | 106 => ⟨S1x64, .f32⟩
  | 107 => ⟨S8192x64, .f32⟩
  | 108 => ⟨S8192x64, .f32⟩
  | 109 => ⟨S8192x64, .f32⟩
  | 110 => ⟨S8192x64, .f32⟩
  | 111 => ⟨S8192x1x64, .f32⟩
  | 112 => ⟨S8192x64, .f32⟩
  | 113 => ⟨S8192x1x64, .f32⟩
  | 114 => ⟨S1x8192x12x64, .f32⟩
  | 115 => ⟨S1x8192x12x64, .f32⟩
  | 116 => ⟨S1x8192x1x64, .f32⟩
  | 117 => ⟨S1x8192x12x64, .f32⟩
  | 118 => ⟨S1x8192x12x64, .f32⟩
  | 119 => ⟨S1x8192x1x64, .f32⟩
  | 120 => ⟨S1x8192x12x64, .f32⟩
  | 121 => ⟨S1x8192x12x64, .f32⟩
  | 122 => ⟨S1x8192x12x64, .f32⟩
  | 123 => ⟨S1x8192x1x64, .f32⟩
  | 124 => ⟨S1x8192x12x64, .f32⟩
  | 125 => ⟨S1x8192x12x64, .f32⟩
  | 126 => ⟨S1x8192x1x64, .f32⟩
  | 127 => ⟨S1x8192x12x64, .f32⟩
  | _ => ⟨S1x8192x2048, .f32⟩

abbrev hbmTy0_1 (i : Nat) : BufTy := match i % 128 with
  | 0 => ⟨S1x8192x12x64, .f32⟩
  | 1 => ⟨S1x8192x12x64, .f32⟩
  | 2 => ⟨S1x8192x12x128, .f32⟩
  | 3 => ⟨S1x8192x12x128, .f32⟩
  | 4 => ⟨S1x8192x512, .f32⟩
  | 5 => ⟨S1x8192x512, .f32⟩
  | 6 => ⟨S1x8192x512, .f32⟩
  | 7 => ⟨S1x8192x512, .f32⟩
  | 8 => ⟨S_, .f32⟩
  | 9 => ⟨S1x8192x512, .f32⟩
  | 10 => ⟨S1x8192x512, .f32⟩
  | 11 => ⟨S_, .f32⟩
  | 12 => ⟨S1x8192x512, .f32⟩
  | 13 => ⟨S1x8192x512, .f32⟩
  | 14 => ⟨S1x8192x512, .f32⟩
  | 15 => ⟨S1x8192x36x128, .f32⟩
  | 16 => ⟨S8192x36x128, .f32⟩
  | 17 => ⟨S36x8192x128, .f32⟩
  | 18 => ⟨S8192x512, .f32⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_10 : Ref sig .tc := ⟨.hbm, 98, rfl⟩
abbrev main_v82 : Ref sig .tc := ⟨.hbm, 99, rfl⟩
abbrev main_v83 : Ref sig .tc := ⟨.hbm, 100, rfl⟩
abbrev main_cst_11 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_12 : Ref sig .tc := ⟨.hbm, 136, rfl⟩
abbrev main_v118 : Ref sig .tc := ⟨.hbm, 137, rfl⟩
abbrev main_v119 : Ref sig .tc := ⟨.hbm, 138, rfl⟩
abbrev main_cst_13 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩

abbrev nD : Nat := 1
abbrev τ : Topo := Topo.v7x

variable {F : FTy → Type} [FloatOps F]
-- ==== Kernel3.lean ====
abbrev S1x8192x2048 : Shape := ⟨3, ![1, 8192, 2048]⟩
abbrev S4x8192x128 : Shape := ⟨3, ![4, 8192, 128]⟩
abbrev S4x8192 : Shape := ⟨2, ![4, 8192]⟩
abbrev S8192x512 : Shape := ⟨2, ![8192, 512]⟩
abbrev S2048x2048 : Shape := ⟨2, ![2048, 2048]⟩
abbrev S2048 : Shape := ⟨1, ![2048]⟩
abbrev S2048x512 : Shape := ⟨2, ![2048, 512]⟩
abbrev S128 : Shape := ⟨1, ![128]⟩
abbrev S256x512 : Shape := ⟨2, ![256, 512]⟩
abbrev S512x2048 : Shape := ⟨2, ![512, 2048]⟩
abbrev S8192x2048 : Shape := ⟨2, ![8192, 2048]⟩
abbrev S4x8192x1 : Shape := ⟨3, ![4, 8192, 1]⟩
abbrev S1x2048 : Shape := ⟨2, ![1, 2048]⟩
abbrev S1x128 : Shape := ⟨2, ![1, 128]⟩
abbrev S4x512x128 : Shape := ⟨3, ![4, 512, 128]⟩
abbrev S512x512 : Shape := ⟨2, ![512, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S256x128 : Shape := ⟨2, ![256, 128]⟩
abbrev S512x256 : Shape := ⟨2, ![512, 256]⟩

abbrev nBuf : Space → Nat
  | .hbm => 28
  | .vmem => 27
  | .smem => 0
  | _ => 0

abbrev bufTy : (tb : Table) → Fin (tcTables nBuf tb) → BufTy
  | .hbm, ⟨0, _⟩ => ⟨S1x8192x2048, .f32⟩
  | .hbm, ⟨1, _⟩ => ⟨S4x8192x128, .f32⟩
  | .hbm, ⟨2, _⟩ => ⟨S4x8192x128, .f32⟩
  | .hbm, ⟨3, _⟩ => ⟨S4x8192x128, .f32⟩
  | .hbm, ⟨4, _⟩ => ⟨S4x8192, .f32⟩
  | .hbm, ⟨5, _⟩ => ⟨S4x8192, .f32⟩
  | .hbm, ⟨6, _⟩ => ⟨S4x8192, .f32⟩
  | .hbm, ⟨7, _⟩ => ⟨S8192x512, .f32⟩
  | .hbm, ⟨8, _⟩ => ⟨S2048x2048, .f32⟩
  | .hbm, ⟨9, _⟩ => ⟨S2048, .f32⟩
  | .hbm, ⟨10, _⟩ => ⟨S2048x512, .f32⟩
  | .hbm, ⟨11, _⟩ => ⟨S128, .f32⟩
  | .hbm, ⟨12, _⟩ => ⟨S256x512, .f32⟩
  | .hbm, ⟨13, _⟩ => ⟨S256x512, .f32⟩
  | .hbm, ⟨14, _⟩ => ⟨S512x2048, .f32⟩
  | .hbm, ⟨15, _⟩ => ⟨S8192x2048, .f32⟩
  | .hbm, ⟨16, _⟩ => ⟨S2048x2048, .bf16⟩
  | .hbm, ⟨17, _⟩ => ⟨S2048x512, .bf16⟩
  | .hbm, ⟨18, _⟩ => ⟨S512x2048, .bf16⟩
  | .hbm, ⟨19, _⟩ => ⟨S4x8192x1, .f32⟩
  | .hbm, ⟨20, _⟩ => ⟨S4x8192x128, .f32⟩
  | .hbm, ⟨21, _⟩ => ⟨S4x8192x1, .f32⟩
  | .hbm, ⟨22, _⟩ => ⟨S4x8192x128, .f32⟩
  | .hbm, ⟨23, _⟩ => ⟨S4x8192x1, .f32⟩
  | .hbm, ⟨24, _⟩ => ⟨S4x8192x128, .f32⟩
  | .hbm, ⟨25, _⟩ => ⟨S1x2048, .f32⟩
  | .hbm, ⟨26, _⟩ => ⟨S1x128, .f32⟩
  | .hbm, ⟨27, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S4x512x128, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S4x512x128, .f32⟩
  | .local _ .vmem, ⟨7, _⟩ => ⟨S4x512x128, .f32⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .f32⟩
  | .local _ .vmem, ⟨13, _⟩ => ⟨S4x512x128, .f32⟩
  | .local _ .vmem, ⟨14, _⟩ => ⟨S512x512, .f32⟩
  | .local _ .vmem, ⟨15, _⟩ => ⟨S512x512, .f32⟩
  | .local _ .vmem, ⟨16, _⟩ => ⟨S2048x2048, .bf16⟩
  | .local _ .vmem, ⟨17, _⟩ => ⟨S1x2048, .f32⟩
  | .local _ .vmem, ⟨18, _⟩ => ⟨S2048x512, .bf16⟩
  | .local _ .vmem, ⟨19, _⟩ => ⟨S1x128, .f32⟩
  | .local _ .vmem, ⟨20, _⟩ => ⟨S256x512, .f32⟩
  | .local _ .vmem, ⟨21, _⟩ => ⟨S256x512, .f32⟩
  | .local _ .vmem, ⟨22, _⟩ => ⟨S512x2048, .bf16⟩
  | .local _ .vmem, ⟨23, _⟩ => ⟨S512x2048, .f32⟩
  | .local _ .vmem, ⟨24, _⟩ => ⟨S512x2048, .f32⟩
  | .local _ .vmem, ⟨25, _⟩ => ⟨S512x2048, .bf16⟩
  | .local _ .vmem, ⟨26, _⟩ => ⟨S512x512, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S1x8192x2048 : Shape := ⟨3, ![1, 8192, 2048]⟩
abbrev S4x8192x128 : Shape := ⟨3, ![4, 8192, 128]⟩
abbrev S4x8192 : Shape := ⟨2, ![4, 8192]⟩
abbrev S8192x512 : Shape := ⟨2, ![8192, 512]⟩
abbrev S2048x2048 : Shape := ⟨2, ![2048, 2048]⟩
abbrev S2048 : Shape := ⟨1, ![2048]⟩
abbrev S2048x512 : Shape := ⟨2, ![2048, 512]⟩
abbrev S128 : Shape := ⟨1, ![128]⟩
abbrev S256x512 : Shape := ⟨2, ![256, 512]⟩
abbrev S512x2048 : Shape := ⟨2, ![512, 2048]⟩
abbrev S8192x4x128 : Shape := ⟨3, ![8192, 4, 128]⟩
abbrev S1x8192x4x128 : Shape := ⟨4, ![1, 8192, 4, 128]⟩
abbrev S8192x4 : Shape := ⟨2, ![8192, 4]⟩
abbrev S1x8192x4 : Shape := ⟨3, ![1, 8192, 4]⟩
abbrev S1x1x8192x4 : Shape := ⟨4, ![1, 1, 8192, 4]⟩
abbrev S3x1x8192x4 : Shape := ⟨4, ![3, 1, 8192, 4]⟩
abbrev S_ : Shape := ⟨0, ![]⟩
abbrev S1x8192x4x1 : Shape := ⟨4, ![1, 8192, 4, 1]⟩
abbrev S1x8192x12x128 : Shape := ⟨4, ![1, 8192, 12, 128]⟩
abbrev S1x8192x1536 : Shape := ⟨3, ![1, 8192, 1536]⟩
abbrev S1x8192x512 : Shape := ⟨3, ![1, 8192, 512]⟩
abbrev S1x256x4x128 : Shape := ⟨4, ![1, 256, 4, 128]⟩
abbrev S1x8192 : Shape := ⟨2, ![1, 8192]⟩
abbrev S1x8192x1 : Shape := ⟨3, ![1, 8192, 1]⟩
abbrev S1x1x2048 : Shape := ⟨3, ![1, 1, 2048]⟩
abbrev S1x1x1x128 : Shape := ⟨4, ![1, 1, 1, 128]⟩
abbrev S1x4x8192x256 : Shape := ⟨4, ![1, 4, 8192, 256]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S8192x2048 : Shape := ⟨2, ![8192, 2048]⟩

abbrev nBuf : Space → Nat
  | .hbm => 126
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S4x8192x128, .f32⟩
  | .hbm, ⟨2, _⟩ => ⟨S4x8192x128, .f32⟩
  | .hbm, ⟨3, _⟩ => ⟨S4x8192x128, .f32⟩
  | .hbm, ⟨4, _⟩ => ⟨S4x8192, .f32⟩
  | .hbm, ⟨5, _⟩ => ⟨S4x8192, .f32⟩
  | .hbm, ⟨6, _⟩ => ⟨S4x8192, .f32⟩
  | .hbm, ⟨7, _⟩ => ⟨S8192x512, .f32⟩
  | .hbm, ⟨8, _⟩ => ⟨S2048x2048, .f32⟩
  | .hbm, ⟨9, _⟩ => ⟨S2048, .f32⟩
  | .hbm, ⟨10, _⟩ => ⟨S2048x512, .f32⟩
  | .hbm, ⟨11, _⟩ => ⟨S128, .f32⟩
  | .hbm, ⟨12, _⟩ => ⟨S256x512, .f32⟩
  | .hbm, ⟨13, _⟩ => ⟨S256x512, .f32⟩
  | .hbm, ⟨14, _⟩ => ⟨S512x2048, .f32⟩
  | .hbm, ⟨15, _⟩ => ⟨S8192x4x128, .f32⟩
  | .hbm, ⟨16, _⟩ => ⟨S1x8192x4x128, .f32⟩
  | .hbm, ⟨17, _⟩ => ⟨S8192x4x128, .f32⟩
  | .hbm, ⟨18, _⟩ => ⟨S1x8192x4x128, .f32⟩
  | .hbm, ⟨19, _⟩ => ⟨S8192x4x128, .f32⟩
  | .hbm, ⟨20, _⟩ => ⟨S1x8192x4x128, .f32⟩
  | .hbm, ⟨21, _⟩ => ⟨S8192x4, .f32⟩
  | .hbm, ⟨22, _⟩ => ⟨S1x8192x4, .f32⟩
  | .hbm, ⟨23, _⟩ => ⟨S8192x4, .f32⟩
  | .hbm, ⟨24, _⟩ => ⟨S1x8192x4, .f32⟩
  | .hbm, ⟨25, _⟩ => ⟨S8192x4, .f32⟩
  | .hbm, ⟨26, _⟩ => ⟨S1x8192x4, .f32⟩
  | .hbm, ⟨27, _⟩ => ⟨S1x1x8192x4, .f32⟩
  | .hbm, ⟨28, _⟩ => ⟨S1x1x8192x4, .f32⟩
  | .hbm, ⟨29, _⟩ => ⟨S1x1x8192x4, .f32⟩
  | .hbm, ⟨30, _⟩ => ⟨S3x1x8192x4, .f32⟩
  | .hbm, ⟨31, _⟩ => ⟨S_, .f32⟩
  | .hbm, ⟨32, _⟩ => ⟨S1x8192x4, .f32⟩
  | .hbm, ⟨33, _⟩ => ⟨S_, .f32⟩
  | .hbm, ⟨34, _⟩ => ⟨S1x8192x4, .f32⟩
  | .hbm, ⟨35, _⟩ => ⟨S1x8192x4, .f32⟩
  | .hbm, ⟨36, _⟩ => ⟨S1x1x8192x4, .f32⟩
  | .hbm, ⟨37, _⟩ => ⟨S3x1x8192x4, .f32⟩
  | .hbm, ⟨38, _⟩ => ⟨S3x1x8192x4, .f32⟩
  | .hbm, ⟨39, _⟩ => ⟨S3x1x8192x4, .f32⟩
  | .hbm, ⟨40, _⟩ => ⟨S_, .f32⟩
  | .hbm, ⟨41, _⟩ => ⟨S1x8192x4, .f32⟩
  | .hbm, ⟨42, _⟩ => ⟨S1x1x8192x4, .f32⟩
  | .hbm, ⟨43, _⟩ => ⟨S3x1x8192x4, .f32⟩
  | .hbm, ⟨44, _⟩ => ⟨S3x1x8192x4, .f32⟩
  | .hbm, ⟨45, _⟩ => ⟨S1x1x8192x4, .f32⟩
  | .hbm, ⟨46, _⟩ => ⟨S1x8192x4, .f32⟩
  | .hbm, ⟨47, _⟩ => ⟨S1x1x8192x4, .f32⟩
  | .hbm, ⟨48, _⟩ => ⟨S1x8192x4, .f32⟩
  | .hbm, ⟨49, _⟩ => ⟨S1x1x8192x4, .f32⟩
  | .hbm, ⟨50, _⟩ => ⟨S1x8192x4, .f32⟩
  | .hbm, ⟨51, _⟩ => ⟨S1x8192x4x1, .f32⟩
  | .hbm, ⟨52, _⟩ => ⟨S1x8192x4x128, .f32⟩
  | .hbm, ⟨53, _⟩ => ⟨S1x8192x4x128, .f32⟩
  | .hbm, ⟨54, _⟩ => ⟨S1x8192x4x1, .f32⟩
  | .hbm, ⟨55, _⟩ => ⟨S1x8192x4x128, .f32⟩
  | .hbm, ⟨56, _⟩ => ⟨S1x8192x4x128, .f32⟩
  | .hbm, ⟨57, _⟩ => ⟨S1x8192x4x1, .f32⟩
  | .hbm, ⟨58, _⟩ => ⟨S1x8192x4x128, .f32⟩
  | .hbm, ⟨59, _⟩ => ⟨S1x8192x4x128, .f32⟩
  | .hbm, ⟨60, _⟩ => ⟨S1x8192x12x128, .f32⟩
  | .hbm, ⟨61, _⟩ => ⟨S1x8192x1536, .f32⟩
  | .hbm, ⟨62, _⟩ => ⟨S1x8192x512, .f32⟩
  | .hbm, ⟨63, _⟩ => ⟨S1x8192x2048, .f32⟩
  | .hbm, ⟨64, _⟩ => ⟨S1x8192x2048, .f32⟩
  | .hbm, ⟨65, _⟩ => ⟨S1x8192x2048, .f32⟩
  | .hbm, ⟨66, _⟩ => ⟨S1x256x4x128, .f32⟩
  | .hbm, ⟨67, _⟩ => ⟨S1x256x4x128, .f32⟩
  | .hbm, ⟨68, _⟩ => ⟨S1x8192x2048, .f32⟩
  | .hbm, ⟨69, _⟩ => ⟨S_, .f32⟩
  | .hbm, ⟨70, _⟩ => ⟨S1x8192, .f32⟩
  | .hbm, ⟨71, _⟩ => ⟨S1x8192x1, .f32⟩
  | .hbm, ⟨72, _⟩ => ⟨S_, .f32⟩
  | .hbm, ⟨73, _⟩ => ⟨S1x8192x1, .f32⟩
  | .hbm, ⟨74, _⟩ => ⟨S1x8192x1, .f32⟩
  | .hbm, ⟨75, _⟩ => ⟨S_, .f32⟩
  | .hbm, ⟨76, _⟩ => ⟨S1x8192x1, .f32⟩
  | .hbm, ⟨77, _⟩ => ⟨S1x8192x1, .f32⟩
  | .hbm, ⟨78, _⟩ => ⟨S1x8192x1, .f32⟩
  | .hbm, ⟨79, _⟩ => ⟨S1x8192x2048, .f32⟩
  | .hbm, ⟨80, _⟩ => ⟨S1x8192x2048, .f32⟩
  | .hbm, ⟨81, _⟩ => ⟨S1x1x2048, .f32⟩
  | .hbm, ⟨82, _⟩ => ⟨S1x8192x2048, .f32⟩
  | .hbm, ⟨83, _⟩ => ⟨S1x8192x2048, .f32⟩
  | .hbm, ⟨84, _⟩ => ⟨S1x8192x512, .f32⟩
  | .hbm, ⟨85, _⟩ => ⟨S1x8192x4x128, .f32⟩
  | .hbm, ⟨86, _⟩ => ⟨S1x8192x4x128, .f32⟩
  | .hbm, ⟨87, _⟩ => ⟨S_, .f32⟩
  | .hbm, ⟨88, _⟩ => ⟨S1x8192x4, .f32⟩
  | .hbm, ⟨89, _⟩ => ⟨S1x8192x4x1, .f32⟩
  | .hbm, ⟨90, _⟩ => ⟨S_, .f32⟩
  | .hbm, ⟨91, _⟩ => ⟨S1x8192x4x1, .f32⟩
  | .hbm, ⟨92, _⟩ => ⟨S1x8192x4x1, .f32⟩
  | .hbm, ⟨93, _⟩ => ⟨S_, .f32⟩
  | .hbm, ⟨94, _⟩ => ⟨S1x8192x4x1, .f32⟩
  | .hbm, ⟨95, _⟩ => ⟨S1x8192x4x1, .f32⟩
  | .hbm, ⟨96, _⟩ => ⟨S1x8192x4x1, .f32⟩
  | .hbm, ⟨97, _⟩ => ⟨S1x8192x4x128, .f32⟩
  | .hbm, ⟨98, _⟩ => ⟨S1x8192x4x128, .f32⟩
  | .hbm, ⟨99, _⟩ => ⟨S1x1x1x128, .f32⟩
  | .hbm, ⟨100, _⟩ => ⟨S1x8192x4x128, .f32⟩
  | .hbm, ⟨101, _⟩ => ⟨S1x8192x4x128, .f32⟩
  | .hbm, ⟨102, _⟩ => ⟨S1x4x8192x256, .f32⟩
  | .hbm, ⟨103, _⟩ => ⟨S_, .f32⟩
  | .hbm, ⟨104, _⟩ => ⟨S1x4x8192x256, .f32⟩
  | .hbm, ⟨105, _⟩ => ⟨S1x4x8192x256, .f32⟩
  | .hbm, ⟨106, _⟩ => ⟨S_, .f32⟩
  | .hbm, ⟨107, _⟩ => ⟨S1x4x8192, .f32⟩
  | .hbm, ⟨108, _⟩ => ⟨S_, .f32⟩
  | .hbm, ⟨109, _⟩ => ⟨S1x4x8192, .f32⟩
  | .hbm, ⟨110, _⟩ => ⟨S1x4x8192, .f32⟩
  | .hbm, ⟨111, _⟩ => ⟨S1x4x8192x1, .f32⟩
  | .hbm, ⟨112, _⟩ => ⟨S1x4x8192x256, .f32⟩
  | .hbm, ⟨113, _⟩ => ⟨S1x4x8192x256, .f32⟩
  | .hbm, ⟨114, _⟩ => ⟨S1x4x8192x256, .f32⟩
  | .hbm, ⟨115, _⟩ => ⟨S_, .f32⟩
  | .hbm, ⟨116, _⟩ => ⟨S1x4x8192, .f32⟩
  | .hbm, ⟨117, _⟩ => ⟨S1x4x8192x1, .f32⟩
  | .hbm, ⟨118, _⟩ => ⟨S1x4x8192x256, .f32⟩
  | .hbm, ⟨119, _⟩ => ⟨S1x4x8192x256, .f32⟩
  | .hbm, ⟨120, _⟩ => ⟨S1x4x128x8192, .f32⟩
  | .hbm, ⟨121, _⟩ => ⟨S1x8192x4x128, .f32⟩
  | .hbm, ⟨122, _⟩ => ⟨S1x8192x512, .f32⟩
  | .hbm, ⟨123, _⟩ => ⟨S1x8192x2048, .f32⟩
  | .hbm, ⟨124, _⟩ => ⟨S1x8192x2048, .f32⟩
  | .hbm, ⟨125, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_2 : Ref sig .tc := ⟨.hbm, 69, rfl⟩
abbrev main_v51 : Ref sig .tc := ⟨.hbm, 70, rfl⟩
abbrev main_v52 : Ref sig .tc := ⟨.hbm, 71, rfl⟩
abbrev main_cst_3 : Ref sig .tc := ⟨.hbm, 72, rfl⟩
abbrev main_v53 : Ref sig .tc := ⟨.hbm, 73, rfl⟩
abbrev main_v54 : Ref sig .tc := ⟨.hbm, 74, rfl⟩
abbrev main_cst_4 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_5 : Ref sig .tc := ⟨.hbm, 87, rfl⟩
abbrev main_v66 : Ref sig .tc := ⟨.hbm, 88, rfl⟩
abbrev main_v67 : Ref sig .tc := ⟨.hbm, 89, rfl⟩
abbrev main_cst_6 : Ref sig .tc := ⟨.hbm, 90, rfl⟩
abbrev main_v68 : Ref sig .tc := ⟨.hbm, 91, rfl⟩
abbrev main_v69 : Ref sig .tc := ⟨.hbm, 92, rfl⟩
abbrev main_cst_7 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_8 : Ref sig .tc := ⟨.hbm, 103, rfl⟩
abbrev main_v79 : Ref sig .tc := ⟨.hbm, 104, rfl⟩
abbrev main_v80 : Ref sig .tc := ⟨.hbm, 105, rfl⟩
abbrev main_cst_9 : Ref sig .tc := ⟨.hbm, 106, rfl⟩
abbrev main_v81 : Ref sig .tc := ⟨.hbm, 107, rfl⟩
abbrev main_cst_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_11 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩

abbrev nD : Nat := 1
abbrev τ : Topo := Topo.v7x

variable {F : FTy → Type} [FloatOps F]
-- ==== Kernel4.lean ====
abbrev S1x256x2048 : Shape := ⟨3, ![1, 256, 2048]⟩
abbrev S2048 : Shape := ⟨1, ![2048]⟩
abbrev S2048x512 : Shape := ⟨2, ![2048, 512]⟩
abbrev S128 : Shape := ⟨1, ![128]⟩
abbrev S256x2048 : Shape := ⟨2, ![256, 2048]⟩
abbrev S1x2048 : Shape := ⟨2, ![1, 2048]⟩
abbrev S1x128 : Shape := ⟨2, ![1, 128]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 12
  | .vmem => 7
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S128, .f32⟩
  | .hbm, ⟨5, _⟩ => ⟨S2048x512, .bf16⟩
  | .hbm, ⟨6, _⟩ => ⟨S2048x512, .bf16⟩
  | .hbm, ⟨7, _⟩ => ⟨S256x2048, .f32⟩
  | .hbm, ⟨8, _⟩ => ⟨S1x2048, .f32⟩
  | .hbm, ⟨9, _⟩ => ⟨S1x128, .f32⟩
  | .hbm, ⟨10, _⟩ => ⟨S256x512, .f32⟩
  | .hbm, ⟨11, _⟩ => ⟨S256x512, .f32⟩
  | .local _ .vmem, ⟨0, _⟩ => ⟨S256x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S1x128, .f32⟩
  | .local _ .vmem, ⟨5, _⟩ => ⟨S256x512, .f32⟩
  | .local _ .vmem, ⟨6, _⟩ => ⟨S256x512, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference4Ideal.lean ====
abbrev S1x256x2048 : Shape := ⟨3, ![1, 256, 2048]⟩
abbrev S2048 : Shape := ⟨1, ![2048]⟩
abbrev S2048x512 : Shape := ⟨2, ![2048, 512]⟩
abbrev S128 : Shape := ⟨1, ![128]⟩
abbrev S_ : Shape := ⟨0, ![]⟩
abbrev S1x256 : Shape := ⟨2, ![1, 256]⟩
abbrev S1x256x1 : Shape := ⟨3, ![1, 256, 1]⟩
abbrev S1x1x2048 : Shape := ⟨3, ![1, 1, 2048]⟩
abbrev S1x256x512 : Shape := ⟨3, ![1, 256, 512]⟩
abbrev S1x256x4x128 : Shape := ⟨4, ![1, 256, 4, 128]⟩
abbrev S1x256x4 : Shape := ⟨3, ![1, 256, 4]⟩
abbrev S1x256x4x1 : Shape := ⟨4, ![1, 256, 4, 1]⟩
abbrev S1x1x1x128 : Shape := ⟨4, ![1, 1, 1, 128]⟩
abbrev S256x512 : Shape := ⟨2, ![256, 512]⟩

abbrev nBuf : Space → Nat
  | .hbm => 43
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S2048x512, .f32⟩
  | .hbm, ⟨3, _⟩ => ⟨S2048x512, .f32⟩
  | .hbm, ⟨4, _⟩ => ⟨S128, .f32⟩
  | .hbm, ⟨5, _⟩ => ⟨S1x256x2048, .f32⟩
  | .hbm, ⟨6, _⟩ => ⟨S_, .f32⟩
  | .hbm, ⟨7, _⟩ => ⟨S1x256, .f32⟩
  | .hbm, ⟨8, _⟩ => ⟨S1x256x1, .f32⟩
  | .hbm, ⟨9, _⟩ => ⟨S_, .f32⟩
  | .hbm, ⟨10, _⟩ => ⟨S1x256x1, .f32⟩
  | .hbm, ⟨11, _⟩ => ⟨S1x256x1, .f32⟩
  | .hbm, ⟨12, _⟩ => ⟨S_, .f32⟩
  | .hbm, ⟨13, _⟩ => ⟨S1x256x1, .f32⟩
  | .hbm, ⟨14, _⟩ => ⟨S1x256x1, .f32⟩
  | .hbm, ⟨15, _⟩ => ⟨S1x256x1, .f32⟩
  | .hbm, ⟨16, _⟩ => ⟨S1x256x2048, .f32⟩
  | .hbm, ⟨17, _⟩ => ⟨S1x256x2048, .f32⟩
  | .hbm, ⟨18, _⟩ => ⟨S1x1x2048, .f32⟩
  | .hbm, ⟨19, _⟩ => ⟨S1x256x2048, .f32⟩
  | .hbm, ⟨20, _⟩ => ⟨S1x256x2048, .f32⟩
  | .hbm, ⟨21, _⟩ => ⟨S1x256x512, .f32⟩
  | .hbm, ⟨22, _⟩ => ⟨S1x256x4x128, .f32⟩
  | .hbm, ⟨23, _⟩ => ⟨S1x256x4x128, .f32⟩
  | .hbm, ⟨24, _⟩ => ⟨S_, .f32⟩
  | .hbm, ⟨25, _⟩ => ⟨S1x256x4, .f32⟩
  | .hbm, ⟨26, _⟩ => ⟨S1x256x4x1, .f32⟩
  | .hbm, ⟨27, _⟩ => ⟨S_, .f32⟩
  | .hbm, ⟨28, _⟩ => ⟨S1x256x4x1, .f32⟩
  | .hbm, ⟨29, _⟩ => ⟨S1x256x4x1, .f32⟩
  | .hbm, ⟨30, _⟩ => ⟨S_, .f32⟩
  | .hbm, ⟨31, _⟩ => ⟨S1x256x4x1, .f32⟩
  | .hbm, ⟨32, _⟩ => ⟨S1x256x4x1, .f32⟩
  | .hbm, ⟨33, _⟩ => ⟨S1x256x4x1, .f32⟩
  | .hbm, ⟨34, _⟩ => ⟨S1x256x4x128, .f32⟩
  | .hbm, ⟨35, _⟩ => ⟨S1x256x4x128, .f32⟩
  | .hbm, ⟨36, _⟩ => ⟨S1x1x1x128, .f32⟩
  | .hbm, ⟨37, _⟩ => ⟨S1x256x4x128, .f32⟩
  | .hbm, ⟨38, _⟩ => ⟨S1x256x4x128, .f32⟩
  | .hbm, ⟨39, _⟩ => ⟨S1x256x512, .f32⟩
  | .hbm, ⟨40, _⟩ => ⟨S1x256x4x128, .f32⟩
  | .hbm, ⟨41, _⟩ => ⟨S256x512, .f32⟩
  | .hbm, ⟨42, _⟩ => ⟨S256x512, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.Attn.Block.lean ====
module

public import proofs.«01_k».proof.Defs
public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- What a point leaves in the key scratch: its own key block. -/
theorem carried_k (c : Dev nD) (t : Fin cfg0.N) : (outsAt0 m c t.val t.isLt).2.2.1 = iblk m c 1 t := by
  by_cases h : t.val % 64 = 0
  · rw [outsAt0_A m c t h]
    dsimp only
    funext j
    frame_out
    unfold_payloads
    pointwise
  · rw [outsAt0_B m c t h]
    dsimp only
    funext j
    frame_out
    unfold_payloads
    pointwise

/-- What a point leaves in the value scratch: its own value block. -/
theorem carried_v (c : Dev nD) (t : Fin cfg0.N) : (outsAt0 m c t.val t.isLt).2.2.2 = iblk m c 2 t := by
  by_cases h : t.val % 64 = 0
  · rw [outsAt0_A m c t h]
    dsimp only
    funext j
    frame_out
    unfold_payloads
    pointwise
  · rw [outsAt0_B m c t h]
    dsimp only
    funext j
    frame_out
    unfold_payloads
    pointwise

/-- Whether query `i` of block `b` reads key `j` of the two blocks it sees, as a word. -/
def seen (b : BitVec 32) (i j : ℕ) : BitVec 1 :=
  IntOp.andi
    (IntOp.andi (IntOp.cmpi .sge (BitVec.ofNat 32 j) (IntOp.addi (BitVec.ofNat 32 i) 0#32))
      (IntOp.cmpi .sle (BitVec.ofNat 32 j) (IntOp.addi (BitVec.ofNat 32 i) 128#32)))
    (IntOp.ori (IntOp.cmpi .sge (BitVec.ofNat 32 j) 128#32) (Scalar.cmpi .sgt b 0#32))

/-- Rows of the block before, then rows of the block itself. -/
def band (prev cur : Fin 128 → Fin 128 → EReal) (j : Fin 256) (d : Fin 128) : EReal :=
  if h : j.val < 128 then prev ⟨j.val, h⟩ d else cur ⟨j.val - 128, by omega⟩ d

/-- The masked, scaled score of query row `q i` against key `j` of the band. -/
def score (b : BitVec 32) (q k kp : Fin 128 → Fin 128 → EReal) (i : Fin 128) (j : Fin 256) : EReal :=
  Scalar.select (seen b i.val j.val) ((∑ d, q i d * band kp k j d) * Ideal.ofBits FTy.f32 1035273459#32) (Ideal.ofBits FTy.f32 4286578688#32)

/-- The largest score of a row. -/
def top (b : BitVec 32) (q k kp : Fin 128 → Fin 128 → EReal) (i : Fin 128) : EReal :=
  Finset.fold max (Ideal.ofBits FTy.f32 4286578688#32) (fun j => score b q k kp i j) Finset.univ

/-- The weight of key `j`, before the division. -/
def wt (b : BitVec 32) (q k kp : Fin 128 → Fin 128 → EReal) (i : Fin 128) (j : Fin 256) : EReal :=
  Ideal.exp (score b q k kp i j - top b q k kp i)

/-- The sum of a row's weights. -/
def den (b : BitVec 32) (q k kp : Fin 128 → Fin 128 → EReal) (i : Fin 128) : EReal := ∑ j, wt b q k kp i j

/-- A head of a block. -/
def head (x : FVec Ideal S4x128x128 .f32) (h : Fin 4) (r d : Fin 128) : EReal := x (ix3 h r d)

set_option maxHeartbeats 1600000 in
/-- The log-sum-exp a point after the first stores. -/
theorem lse_B (c : Dev nD) (t : Fin cfg0.N) (h : ¬ t.val % 64 = 0) (j : S4x128x128.Idx) : (outsAt0 m c t.val t.isLt).2.1 j
    = let kp := head (outsAt0 m c (t.val - 1) (Nat.lt_of_le_of_lt (Nat.sub_le _ _) t.isLt)).2.2.1 (j 0)
      let b := BitVec.ofNat 32 (grid0.coords t 0).val
      top b (head (iblk m c 0 t) (j 0)) (head (iblk m c 1 t) (j 0)) kp (j 1) + Ideal.log (den b (head (iblk m c 0 t) (j 0)) (head (iblk m c 1 t) (j 0)) kp (j 1)) := by
  rw [outsAt0_B m c t h]
  dsimp only
  generalize (outsAt0 m c (t.val - 1) (Nat.lt_of_le_of_lt (Nat.sub_le _ _) t.isLt)).2.2.1 = kp
  generalize (outsAt0 m c (t.val - 1) (Nat.lt_of_le_of_lt (Nat.sub_le _ _) t.isLt)).2.2.2 = vp
  frame_out
  simp only [read_unread_whole]
  generalize iblk m c 0 t = q
  generalize iblk m c 1 t = k
  clear h
  canon_tiles x h
  · have e0 : j 0 = (3 : Fin 4) := Fin.ext (h0.trans (show 3 + (x 0).val = 3 from by omega))
    have e1 : j 1 = x 1 := Fin.ext h1
    have e2 : j 2 = x 2 := Fin.ext h2
    rw [e0, e1]
    unfold_payloads
    pointwise [top, den, wt, score, band, seen, head]
  · have e0 : j 0 = (2 : Fin 4) := Fin.ext (h0.trans (show 2 + (x 0).val = 2 from by omega))
    have e1 : j 1 = x 1 := Fin.ext h1
    have e2 : j 2 = x 2 := Fin.ext h2
    rw [e0, e1]
    unfold_payloads
    pointwise [top, den, wt, score, band, seen, head]
  · have e0 : j 0 = (1 : Fin 4) := Fin.ext (h0.trans (show 1 + (x 0).val = 1 from by omega))
    have e1 : j 1 = x 1 := Fin.ext h1
    have e2 : j 2 = x 2 := Fin.ext h2
    rw [e0, e1]
    unfold_payloads
    pointwise [top, den, wt, score, band, seen, head]
  · have e0 : j 0 = (0 : Fin 4) := Fin.ext (h0.trans (show (x 0).val = 0 from by omega))
    have e1 : j 1 = x 1 := Fin.ext h1
    have e2 : j 2 = x 2 := Fin.ext h2
    rw [e0, e1]
    unfold_payloads
    pointwise [top, den, wt, score, band, seen, head]

set_option maxHeartbeats 1600000 in
/-- The output a point after the first stores. -/
theorem out_B (c : Dev nD) (t : Fin cfg0.N) (h : ¬ t.val % 64 = 0) (j : S4x128x128.Idx) : (outsAt0 m c t.val t.isLt).1 j
    = let kp := head (outsAt0 m c (t.val - 1) (Nat.lt_of_le_of_lt (Nat.sub_le _ _) t.isLt)).2.2.1 (j 0)
      let vp := head (outsAt0 m c (t.val - 1) (Nat.lt_of_le_of_lt (Nat.sub_le _ _) t.isLt)).2.2.2 (j 0)
      let b := BitVec.ofNat 32 (grid0.coords t 0).val
      Ideal.div (∑ y : Fin 256, wt b (head (iblk m c 0 t) (j 0)) (head (iblk m c 1 t) (j 0)) kp (j 1) y * band vp (head (iblk m c 2 t) (j 0)) y (j 2))
        (den b (head (iblk m c 0 t) (j 0)) (head (iblk m c 1 t) (j 0)) kp (j 1)) := by
  rw [outsAt0_B m c t h]
  dsimp only
  generalize (outsAt0 m c (t.val - 1) (Nat.lt_of_le_of_lt (Nat.sub_le _ _) t.isLt)).2.2.1 = kp
  generalize (outsAt0 m c (t.val - 1) (Nat.lt_of_le_of_lt (Nat.sub_le _ _) t.isLt)).2.2.2 = vp
  frame_out
  simp only [read_unread_whole]
  generalize iblk m c 0 t = q
  generalize iblk m c 1 t = k
  generalize iblk m c 2 t = v
  clear h
  canon_tiles x h
  · have e0 : j 0 = (3 : Fin 4) := Fin.ext (h0.trans (show 3 + (x 0).val = 3 from by omega))
    have e1 : j 1 = x 1 := Fin.ext h1
    have e2 : j 2 = x 2 := Fin.ext h2
    rw [e0, e1, e2]
    unfold_payloads
    pointwise [top, den, wt, score, band, seen, head]
  · have e0 : j 0 = (2 : Fin 4) := Fin.ext (h0.trans (show 2 + (x 0).val = 2 from by omega))
    have e1 : j 1 = x 1 := Fin.ext h1
    have e2 : j 2 = x 2 := Fin.ext h2
    rw [e0, e1, e2]
    unfold_payloads
    pointwise [top, den, wt, score, band, seen, head]
  · have e0 : j 0 = (1 : Fin 4) := Fin.ext (h0.trans (show 1 + (x 0).val = 1 from by omega))
    have e1 : j 1 = x 1 := Fin.ext h1
    have e2 : j 2 = x 2 := Fin.ext h2
    rw [e0, e1, e2]
    unfold_payloads
    pointwise [top, den, wt, score, band, seen, head]
  · have e0 : j 0 = (0 : Fin 4) := Fin.ext (h0.trans (show (x 0).val = 0 from by omega))
    have e1 : j 1 = x 1 := Fin.ext h1
    have e2 : j 2 = x 2 := Fin.ext h2
    rw [e0, e1, e2]
    unfold_payloads
    pointwise [top, den, wt, score, band, seen, head]

set_option maxHeartbeats 1600000 in
/-- The log-sum-exp the first point stores: nothing before its block. -/
theorem lse_A (c : Dev nD) (t : Fin cfg0.N) (h : t.val % 64 = 0) (j : S4x128x128.Idx) : (outsAt0 m c t.val t.isLt).2.1 j
    = let b := BitVec.ofNat 32 (grid0.coords t 0).val
      top b (head (iblk m c 0 t) (j 0)) (head (iblk m c 1 t) (j 0)) (fun _ _ => 0) (j 1) + Ideal.log (den b (head (iblk m c 0 t) (j 0)) (head (iblk m c 1 t) (j 0)) (fun _ _ => 0) (j 1)) := by
  rw [outsAt0_A m c t h]
  dsimp only
  frame_out
  simp (disch := decide) only [View.readCov_fill]
  generalize iblk m c 0 t = q
  generalize iblk m c 1 t = k
  clear h
  canon_tiles x h
  · have e0 : j 0 = (3 : Fin 4) := Fin.ext (h0.trans (show 3 + (x 0).val = 3 from by omega))
    have e1 : j 1 = x 1 := Fin.ext h1
    have e2 : j 2 = x 2 := Fin.ext h2
    rw [e0, e1]
    unfold_payloads
    pointwise [top, den, wt, score, band, seen, head]
  · have e0 : j 0 = (2 : Fin 4) := Fin.ext (h0.trans (show 2 + (x 0).val = 2 from by omega))
    have e1 : j 1 = x 1 := Fin.ext h1
    have e2 : j 2 = x 2 := Fin.ext h2
    rw [e0, e1]
    unfold_payloads
    pointwise [top, den, wt, score, band, seen, head]
  · have e0 : j 0 = (1 : Fin 4) := Fin.ext (h0.trans (show 1 + (x 0).val = 1 from by omega))
    have e1 : j 1 = x 1 := Fin.ext h1
    have e2 : j 2 = x 2 := Fin.ext h2
    rw [e0, e1]
    unfold_payloads
    pointwise [top, den, wt, score, band, seen, head]
  · have e0 : j 0 = (0 : Fin 4) := Fin.ext (h0.trans (show (x 0).val = 0 from by omega))
    have e1 : j 1 = x 1 := Fin.ext h1
    have e2 : j 2 = x 2 := Fin.ext h2
    rw [e0, e1]
    unfold_payloads
    pointwise [top, den, wt, score, band, seen, head]

set_option maxHeartbeats 1600000 in
/-- The output the first point stores: nothing before its block. -/
theorem out_A (c : Dev nD) (t : Fin cfg0.N) (h : t.val % 64 = 0) (j : S4x128x128.Idx) : (outsAt0 m c t.val t.isLt).1 j
    = let b := BitVec.ofNat 32 (grid0.coords t 0).val
      Ideal.div (∑ y : Fin 256, wt b (head (iblk m c 0 t) (j 0)) (head (iblk m c 1 t) (j 0)) (fun _ _ => 0) (j 1) y * band (fun _ _ => 0) (head (iblk m c 2 t) (j 0)) y (j 2))
        (den b (head (iblk m c 0 t) (j 0)) (head (iblk m c 1 t) (j 0)) (fun _ _ => 0) (j 1)) := by
  rw [outsAt0_A m c t h]
  dsimp only
  frame_out
  simp (disch := decide) only [View.readCov_fill]
  generalize iblk m c 0 t = q
  generalize iblk m c 1 t = k
  generalize iblk m c 2 t = v
  clear h
  canon_tiles x h
  · have e0 : j 0 = (3 : Fin 4) := Fin.ext (h0.trans (show 3 + (x 0).val = 3 from by omega))
    have e1 : j 1 = x 1 := Fin.ext h1
    have e2 : j 2 = x 2 := Fin.ext h2
    rw [e0, e1, e2]
    unfold_payloads
    pointwise [top, den, wt, score, band, seen, head]
    all_goals try simp only [mul_zero, Finset.sum_const_zero, zero_add]
  · have e0 : j 0 = (2 : Fin 4) := Fin.ext (h0.trans (show 2 + (x 0).val = 2 from by omega))
    have e1 : j 1 = x 1 := Fin.ext h1
    have e2 : j 2 = x 2 := Fin.ext h2
    rw [e0, e1, e2]
    unfold_payloads
    pointwise [top, den, wt, score, band, seen, head]
    all_goals try simp only [mul_zero, Finset.sum_const_zero, zero_add]
  · have e0 : j 0 = (1 : Fin 4) := Fin.ext (h0.trans (show 1 + (x 0).val = 1 from by omega))
    have e1 : j 1 = x 1 := Fin.ext h1
    have e2 : j 2 = x 2 := Fin.ext h2
    rw [e0, e1, e2]
    unfold_payloads
    pointwise [top, den, wt, score, band, seen, head]
    all_goals try simp only [mul_zero, Finset.sum_const_zero, zero_add]
  · have e0 : j 0 = (0 : Fin 4) := Fin.ext (h0.trans (show (x 0).val = 0 from by omega))
    have e1 : j 1 = x 1 := Fin.ext h1
    have e2 : j 2 = x 2 := Fin.ext h2
    rw [e0, e1, e2]
    unfold_payloads
    pointwise [top, den, wt, score, band, seen, head]
    all_goals try simp only [mul_zero, Finset.sum_const_zero, zero_add]
-- ==== Proof.Attn.Mask.lean ====
module

public import proofs.«01_k».proof.Proof.Attn.Block
public import proofs.«01_k».proof.Proof.Gen.ReferenceIdeal.Read

@[expose] public section

set_option maxRecDepth 16384

noncomputable section

namespace Cert.KernelIdeal.Hand

open Idealize.ShloMosaic Idealize.ShloMosaic.TcCoe Idealize.SL.Sem
open Cert.ReferenceIdeal Cert.ReferenceIdeal.Gen Cert.ReferenceIdeal.Read

/-- Distance of a query to a key, by subtraction and by order. -/
theorem near (i : Fin 128) (j : Fin 256) :
    IntOp.andi (IntOp.cmpi .sge (IntOp.subi (IntOp.addi (BitVec.ofNat 32 i.val) 128#32) (BitVec.ofNat 32 j.val)) 0#32)
        (IntOp.cmpi .sle (IntOp.subi (IntOp.addi (BitVec.ofNat 32 i.val) 128#32) (BitVec.ofNat 32 j.val)) 128#32)
      = IntOp.andi (IntOp.cmpi .sge (BitVec.ofNat 32 j.val) (IntOp.addi (BitVec.ofNat 32 i.val) 0#32))
        (IntOp.cmpi .sle (BitVec.ofNat 32 j.val) (IntOp.addi (BitVec.ofNat 32 i.val) 128#32)) :=
  (by decide +kernel : ∀ (i : Fin 128) (j : Fin 256), IntOp.andi (IntOp.cmpi .sge (IntOp.subi (IntOp.addi (BitVec.ofNat 32 i.val) 128#32) (BitVec.ofNat 32 j.val)) 0#32)
        (IntOp.cmpi .sle (IntOp.subi (IntOp.addi (BitVec.ofNat 32 i.val) 128#32) (BitVec.ofNat 32 j.val)) 128#32)
      = IntOp.andi (IntOp.cmpi .sge (BitVec.ofNat 32 j.val) (IntOp.addi (BitVec.ofNat 32 i.val) 0#32))
        (IntOp.cmpi .sle (BitVec.ofNat 32 j.val) (IntOp.addi (BitVec.ofNat 32 i.val) 128#32))) i j

/-- A key at or after position zero: in the block itself, or in a block that is not the first. -/
theorem begun (b : Fin 64) (j : Fin 256) :
    IntOp.cmpi .sge (IntOp.subi (IntOp.addi (IntOp.muli (BitVec.ofNat 32 b.val) 128#32) (BitVec.ofNat 32 j.val)) 128#32) 0#32
      = IntOp.ori (IntOp.cmpi .sge (BitVec.ofNat 32 j.val) 128#32) (Scalar.cmpi .sgt (BitVec.ofNat 32 b.val) 0#32) :=
  (by decide +kernel : ∀ (b : Fin 64) (j : Fin 256),
    IntOp.cmpi .sge (IntOp.subi (IntOp.addi (IntOp.muli (BitVec.ofNat 32 b.val) 128#32) (BitVec.ofNat 32 j.val)) 128#32) 0#32
      = IntOp.ori (IntOp.cmpi .sge (BitVec.ofNat 32 j.val) 128#32) (Scalar.cmpi .sgt (BitVec.ofNat 32 b.val) 0#32)) b j

/-- The host's mask: distance between zero and 128, and a key at or after position zero. -/
theorem mask_at (b : Fin 64) (h : Fin 4) (i : Fin 128) (j : Fin 256) : val_main_call5_v1 (F := Ideal) (ix5 0 b h i j) = seen (BitVec.ofNat 32 b.val) i.val j.val := by
  pointwise [val_main_call5_v1, val_main_v65, val_main_v64, val_main_v63, val_main_v62, val_main_v61, val_main_v60, val_main_v59, val_main_v58, val_main_v57, val_main_v56,
    val_main_v55, val_main_v54, val_main_v53, val_main_v52, val_main_v51, val_main_v50, val_main_v49, val_main_v48, val_main_v47, val_main_v46, val_main_v45, val_main_v44, val_main_v43,
    val_main_v42, val_main_v41, val_main_v40, val_main_v39, val_main_v38, val_main_v37, val_main_v36, val_main_v35,
    val_main_c_4, val_main_c_5, val_main_c_6, val_main_c_7, val_main_c_8, val_main_c_9, seen]
  rw [near, begun]

end Cert.KernelIdeal.Hand
-- ==== Proof.Attn.Host.lean ====
module

public import proofs.«01_k».proof.Proof.Attn.Mask
public import proofs.«01_k».proof.Proof.Gen.ReferenceIdeal.Read

@[expose] public section

set_option maxRecDepth 16384

noncomputable section

namespace Cert.KernelIdeal.Hand

open Idealize.ShloMosaic Idealize.ShloMosaic.TcCoe Idealize.SL.Sem
open Cert.ReferenceIdeal Cert.ReferenceIdeal.Gen Cert.ReferenceIdeal.Read

variable (a : FVec Ideal S36x8192x128 .f32)

/-- Rows of block `b` of head `o + h`. -/
def rows (o : ℕ) (ho : o + 4 ≤ 36) (h : Fin 4) (b : Fin 64) (r d : Fin 128) : EReal :=
  a (ix3 ⟨o + h.val, by omega⟩ ⟨b.val * 128 + r.val, by omega⟩ d)

/-- Rows of the block before block `b`, and zeros before the first. -/
def prevRows (o : ℕ) (ho : o + 4 ≤ 36) (h : Fin 4) (b : Fin 64) (r d : Fin 128) : EReal :=
  if hb : b.val = 0 then 0 else a (ix3 ⟨o + h.val, by omega⟩ ⟨b.val * 128 + r.val - 128, by omega⟩ d)

set_option maxHeartbeats 1600000 in
/-- The host's masked scores. -/
theorem v66_at (b : Fin 64) (h : Fin 4) (i : Fin 128) (j : Fin 256) : val_main_v66 (F := Ideal) a (ix5 0 b h i j)
    = score (BitVec.ofNat 32 b.val) (rows a 0 (by omega) h b) (rows a 12 (by omega) h b) (prevRows a 12 (by omega) h b) i j := by
  pointwise [val_main_v66, mask_at, val_main_v34, val_main_v33, val_main_v32, val_main_v22, val_main_v21,
    val_main_v20, val_main_v19, val_main_v18, val_main_v17, val_main_v16, val_main_v15, val_main_v14, val_main_v13, val_main_v12, val_main_v11, val_main_v10, val_main_v9,
    val_main_v5, val_main_v4, val_main_v3, val_main_v2, val_main_v1, val_main_v0, val_main_c, val_main_c_0, val_main_c_1,
    val_main_call0_v0, val_main_call1_v0, val_main_call2_v0, val_main_call5_v0, val_main_call5_v2,
    val_main_cst, val_main_cst_10, score, band, rows, prevRows]
  have z : (FloatOps.sitofp (F := Ideal) FTy.f32 0#32) = (0 : EReal) := by
    show ((((0#32 : BitVec 32).toInt : ℝ)) : EReal) = 0
    simp
  have hq : b.val * 128 + i.val < 8192 := by omega
  simp only [z, dif_pos hq, id]
  congr 2
  refine Finset.sum_congr rfl fun x _ => ?_
  congr 1
  split_ifs <;> first | rfl | (exfalso; omega) | (congr 2; exact Fin.ext (by simp only []; omega))

/-- The host's row maxima. -/
theorem v67_at (b : Fin 64) (h : Fin 4) (i : Fin 128) : val_main_v67 (F := Ideal) a (ix4 0 b h i)
    = top (BitVec.ofNat 32 b.val) (rows a 0 (by omega) h b) (rows a 12 (by omega) h b) (prevRows a 12 (by omega) h b) i := by
  pointwise [val_main_v67, v66_at, val_main_cst_11, top]

/-- The host's weights before the division. -/
theorem v71_at (b : Fin 64) (h : Fin 4) (i : Fin 128) (j : Fin 256) : val_main_v71 (F := Ideal) a (ix5 0 b h i j)
    = wt (BitVec.ofNat 32 b.val) (rows a 0 (by omega) h b) (rows a 12 (by omega) h b) (prevRows a 12 (by omega) h b) i j := by
  pointwise [val_main_v71, val_main_v70, val_main_v69, val_main_v68, v67_at, v66_at, wt]

/-- The host's sums of weights. -/
theorem v72_at (b : Fin 64) (h : Fin 4) (i : Fin 128) : val_main_v72 (F := Ideal) a (ix4 0 b h i)
    = den (BitVec.ofNat 32 b.val) (rows a 0 (by omega) h b) (rows a 12 (by omega) h b) (prevRows a 12 (by omega) h b) i := by
  pointwise [val_main_v72, v71_at, val_main_cst_12, den]

/-- The host's band of value rows. -/
theorem v31_at (b : Fin 64) (h : Fin 4) (j : Fin 256) (d : Fin 128) : val_main_v31 (F := Ideal) a (ix5 0 b j h d)
    = band (prevRows a 24 (by omega) h b) (rows a 24 (by omega) h b) j d := by
  pointwise [val_main_v31, val_main_v30, val_main_v29, val_main_v28, val_main_v27, val_main_v26, val_main_v25, val_main_v24, val_main_v23, val_main_v8, val_main_v7, val_main_v6,
    val_main_c_2, val_main_c_3, val_main_call3_v0, val_main_call4_v0, band, rows, prevRows]
  have z : (FloatOps.sitofp (F := Ideal) FTy.f32 0#32) = (0 : EReal) := by
    show ((((0#32 : BitVec 32).toInt : ℝ)) : EReal) = 0
    simp
  simp only [z]
  split_ifs <;> first | rfl | (exfalso; omega) | (congr 2; exact Fin.ext (by simp only []; omega))

end Cert.KernelIdeal.Hand
-- ==== Proof.Attn.HostOut.lean ====
module

public import proofs.«01_k».proof.Proof.Attn.Host
public import proofs.«01_k».proof.Proof.Gen.ReferenceIdeal.Read

@[expose] public section

set_option maxRecDepth 16384

noncomputable section

namespace Cert.KernelIdeal.Hand

open Idealize.ShloMosaic Idealize.ShloMosaic.TcCoe Idealize.SL.Sem
open Cert.ReferenceIdeal Cert.ReferenceIdeal.Gen Cert.ReferenceIdeal.Read

variable (a : FVec Ideal S36x8192x128 .f32)

/-- The log-sum-exp of query `i` of block `b`. -/
def lseAt (b : Fin 64) (h : Fin 4) (i : Fin 128) : EReal := top (BitVec.ofNat 32 b.val) (rows a 0 (by omega) h b) (rows a 12 (by omega) h b) (prevRows a 12 (by omega) h b) i + Ideal.log (den (BitVec.ofNat 32 b.val) (rows a 0 (by omega) h b) (rows a 12 (by omega) h b) (prevRows a 12 (by omega) h b) i)

/-- Lane `d` of the output of query `i` of block `b`. -/
def outAt (b : Fin 64) (h : Fin 4) (i d : Fin 128) : EReal :=
  ∑ j : Fin 256, Ideal.div (wt (BitVec.ofNat 32 b.val) (rows a 0 (by omega) h b) (rows a 12 (by omega) h b) (prevRows a 12 (by omega) h b) i j) (den (BitVec.ofNat 32 b.val) (rows a 0 (by omega) h b) (rows a 12 (by omega) h b) (prevRows a 12 (by omega) h b) i) * band (prevRows a 24 (by omega) h b) (rows a 24 (by omega) h b) j d

theorem v79_of (b : Fin 64) (h : Fin 4) (i : Fin 128) : val_main_v79 (F := Ideal) a (ix5 0 b h i 0)
    = val_main_v67 (F := Ideal) a (ix4 0 b h i) + Ideal.log (val_main_v72 (F := Ideal) a (ix4 0 b h i)) := by
  have e : idx_main_v68 (ix5 0 b h i 0) = ix4 0 b h i := by
    funext x
    match x with
    | ⟨0, _⟩ => rfl
    | ⟨1, _⟩ => rfl
    | ⟨2, _⟩ => rfl
    | ⟨3, _⟩ => rfl
  rw [val_main_v79_apply, val_main_v78_apply, val_main_v73_apply, val_main_v68_apply,
    show idx_main_v73 (ix5 0 b h i 0) = ix4 0 b h i from e, e]
  generalize val_main_v72 (F := Ideal) a = y
  generalize val_main_v67 (F := Ideal) a = z
  rfl

theorem v79_at (b : Fin 64) (h : Fin 4) (i : Fin 128) : val_main_v79 (F := Ideal) a (ix5 0 b h i 0) = lseAt a b h i := by
  rw [v79_of, v67_at, v72_at, lseAt]

set_option maxHeartbeats 400000 in
/-- The products with the value rows, over any band, weights and sums. -/
theorem v76_of (b : Fin 64) (h : Fin 4) (i d : Fin 128) : val_main_v76 (F := Ideal) a (ix5 0 b h d i)
    = ∑ j : Fin 256, Ideal.div (val_main_v71 (F := Ideal) a (ix5 0 b h i j)) (val_main_v72 (F := Ideal) a (ix4 0 b h i)) * val_main_v31 (F := Ideal) a (ix5 0 b j h d) := by
  unfold val_main_v76 val_main_v75 val_main_v74 val_main_v73
  generalize val_main_v71 (F := Ideal) a = w
  generalize val_main_v72 (F := Ideal) a = s
  generalize val_main_v31 (F := Ideal) a = v
  pointwise
  exact Finset.sum_congr rfl fun j _ => mul_comm _ _

theorem v76_at (b : Fin 64) (h : Fin 4) (i d : Fin 128) : val_main_v76 (F := Ideal) a (ix5 0 b h d i) = outAt a b h i d := by
  unfold outAt
  rw [v76_of, v72_at]
  refine Finset.sum_congr rfl fun j _ => ?_
  rw [v71_at, v31_at]

set_option maxHeartbeats 400000 in
theorem v93_of (h : Fin 4) (r : Fin 8192) (d : Fin 128) :
    val_main_v93 (F := Ideal) a (ix3 h r d) = val_main_v79 (F := Ideal) a (ix5 0 ⟨r.val / 128, by omega⟩ h ⟨r.val % 128, by omega⟩ 0) := by
  unfold val_main_v93 val_main_v92 val_main_v91 val_main_v90 val_main_v87 val_main_v86 val_main_v85 val_main_v81 val_main_v80
  generalize val_main_v79 (F := Ideal) a = y
  pointwise

/-- The host's log-sum-exp, in every lane of its row. -/
theorem v93_at (h : Fin 4) (r : Fin 8192) (d : Fin 128) :
    val_main_v93 (F := Ideal) a (ix3 h r d) = lseAt a ⟨r.val / 128, by omega⟩ h ⟨r.val % 128, by omega⟩ :=
  (v93_of a h r d).trans (v79_at a _ h _)

/-- The host's output at one row: its row of the block's product, through the host's reshapes and transposes. -/
theorem v89_of (h : Fin 4) (r : Fin 8192) (d : Fin 128) :
    val_main_v89 (F := Ideal) a (ix3 h r d) = val_main_v76 (F := Ideal) a (ix5 0 ⟨r.val / 128, by omega⟩ h d ⟨r.val % 128, by omega⟩) := by
  have e89 : idx_main_v89 (ix3 h r d) = ix3 r h d := by
    funext x
    match x with
    | ⟨0, _⟩ => rfl
    | ⟨1, _⟩ => rfl
    | ⟨2, _⟩ => rfl
  have e88 : idx_main_v88 (ix3 r h d) = ix4 0 r h d := by
    funext x
    match x with
    | ⟨0, _⟩ => rfl
    | ⟨1, _⟩ => exact Fin.ext (show ((r.val * 4 + h.val) * 128 + d.val) / 512 % 8192 = r.val from by omega)
    | ⟨2, _⟩ => exact Fin.ext (show ((r.val * 4 + h.val) * 128 + d.val) / 128 % 4 = h.val from by omega)
    | ⟨3, _⟩ => exact Fin.ext (show ((r.val * 4 + h.val) * 128 + d.val) % 128 = d.val from by omega)
  have e84 : idx_main_v84 (ix4 0 r h d) = ix5 0 r 0 h d := by
    funext x
    match x with
    | ⟨0, _⟩ => rfl
    | ⟨1, _⟩ => exact Fin.ext (show (((0 * 8192 + r.val) * 4 + h.val) * 128 + d.val) / 512 % 8192 = r.val from by omega)
    | ⟨2, _⟩ => rfl
    | ⟨3, _⟩ => exact Fin.ext (show (((0 * 8192 + r.val) * 4 + h.val) * 128 + d.val) / 128 % 4 = h.val from by omega)
    | ⟨4, _⟩ => exact Fin.ext (show (((0 * 8192 + r.val) * 4 + h.val) * 128 + d.val) % 128 = d.val from by omega)
  have e83 : idx_main_v83 (ix5 0 r 0 h d) = ix5 0 0 r h d := by
    funext x
    match x with
    | ⟨0, _⟩ => rfl
    | ⟨1, _⟩ => rfl
    | ⟨2, _⟩ => rfl
    | ⟨3, _⟩ => rfl
    | ⟨4, _⟩ => rfl
  have e82 : idx_main_v82 (ix5 0 0 r h d) = ix5 0 ⟨r.val / 128, by omega⟩ ⟨r.val % 128, by omega⟩ h d := by
    funext x
    match x with
    | ⟨0, _⟩ => rfl
    | ⟨1, _⟩ => exact Fin.ext (show ((((0 * 1 + 0) * 8192 + r.val) * 4 + h.val) * 128 + d.val) / 65536 % 64 = r.val / 128 from by omega)
    | ⟨2, _⟩ => exact Fin.ext (show ((((0 * 1 + 0) * 8192 + r.val) * 4 + h.val) * 128 + d.val) / 512 % 128 = r.val % 128 from by omega)
    | ⟨3, _⟩ => exact Fin.ext (show ((((0 * 1 + 0) * 8192 + r.val) * 4 + h.val) * 128 + d.val) / 128 % 4 = h.val from by omega)
    | ⟨4, _⟩ => exact Fin.ext (show ((((0 * 1 + 0) * 8192 + r.val) * 4 + h.val) * 128 + d.val) % 128 = d.val from by omega)
  have e77 : idx_main_v77 (ix5 0 ⟨r.val / 128, by omega⟩ ⟨r.val % 128, by omega⟩ h d) = ix5 0 ⟨r.val / 128, by omega⟩ h d ⟨r.val % 128, by omega⟩ := by
    funext x
    match x with
    | ⟨0, _⟩ => rfl
    | ⟨1, _⟩ => rfl
    | ⟨2, _⟩ => rfl
    | ⟨3, _⟩ => rfl
    | ⟨4, _⟩ => rfl
  rw [val_main_v89_apply, e89, val_main_v88_apply, e88, val_main_v84_apply, e84, val_main_v83_apply, e83, val_main_v82_apply, e82, val_main_v77_apply, e77]

/-- The host's output. -/
theorem v89_at (h : Fin 4) (r : Fin 8192) (d : Fin 128) :
    val_main_v89 (F := Ideal) a (ix3 h r d) = outAt a ⟨r.val / 128, by omega⟩ h ⟨r.val % 128, by omega⟩ d :=
  (v89_of a h r d).trans (v76_at a _ h _ d)

end Cert.KernelIdeal.Hand
-- ==== Proof.Real.Soft.lean ====
module

public import proofs.«01_k».proof.Defs
public import Idealize.ShloMosaic.Lib.Pointwise

@[expose] public section

noncomputable section

namespace Cert.Soft

open Idealize.ShloMosaic

/-- An extended real that is a real number. -/
def Fin' (x : EReal) : Prop := ∃ r : ℝ, x = (r : EReal)

theorem Fin'.coe (r : ℝ) : Fin' (r : EReal) := ⟨r, rfl⟩
theorem Fin'.zero : Fin' 0 := ⟨0, rfl⟩

theorem Fin'.add {x y : EReal} : Fin' x → Fin' y → Fin' (x + y)
  | ⟨a, ha⟩, ⟨b, hb⟩ => ⟨a + b, by rw [ha, hb, EReal.coe_add]⟩

theorem Fin'.sub {x y : EReal} : Fin' x → Fin' y → Fin' (x - y)
  | ⟨a, ha⟩, ⟨b, hb⟩ => ⟨a - b, by rw [ha, hb, EReal.coe_sub]⟩

theorem Fin'.mul {x y : EReal} : Fin' x → Fin' y → Fin' (x * y)
  | ⟨a, ha⟩, ⟨b, hb⟩ => ⟨a * b, by rw [ha, hb, EReal.coe_mul]⟩

theorem Fin'.exp {x : EReal} : Fin' x → Fin' (Ideal.exp x)
  | ⟨a, ha⟩ => ⟨Real.exp a, by rw [ha, Ideal.exp_coe]⟩

theorem Fin'.ne_bot {x : EReal} : Fin' x → x ≠ ⊥
  | ⟨a, ha⟩ => by rw [ha]; exact EReal.coe_ne_bot a

theorem Fin'.ne_top {x : EReal} : Fin' x → x ≠ ⊤
  | ⟨a, ha⟩ => by rw [ha]; exact EReal.coe_ne_top a

theorem fin_of_ne {x : EReal} (h : x ≠ ⊥) (h' : x ≠ ⊤) : Fin' x := ⟨x.toReal, (EReal.coe_toReal h' h).symm⟩

theorem Fin'.div {x y : EReal} (hx : Fin' x) (hy : Fin' y) (h0 : y ≠ 0) : Fin' (Ideal.div x y) := by
  obtain ⟨b, rfl⟩ := hy
  have hb : b ≠ 0 := fun h => h0 (by rw [h]; rfl)
  rw [Ideal.div_coe hb]
  exact hx.mul (Fin'.coe _)

theorem Fin'.sum {ι : Type} (s : Finset ι) {f : ι → EReal} (h : ∀ i ∈ s, Fin' (f i)) : Fin' (∑ i ∈ s, f i) := by
  classical
  induction s using Finset.induction_on with
  | empty => rw [Finset.sum_empty]; exact Fin'.zero
  | insert a s ha ih =>
    rw [Finset.sum_insert ha]
    exact (h a (Finset.mem_insert_self a s)).add (ih fun i hi => h i (Finset.mem_insert_of_mem hi))

/-- A real factor is brought inside a sum of real numbers. -/
theorem sum_mul {ι : Type} (s : Finset ι) {f : ι → EReal} (r : ℝ) (h : ∀ i ∈ s, Fin' (f i)) :
    (∑ i ∈ s, f i) * (r : EReal) = ∑ i ∈ s, f i * (r : EReal) := by
  classical
  induction s using Finset.induction_on with
  | empty => rw [Finset.sum_empty, Finset.sum_empty, zero_mul]
  | insert a s ha ih =>
    have h' : ∀ i ∈ s, Fin' (f i) := fun i hi => h i (Finset.mem_insert_of_mem hi)
    obtain ⟨x, hx⟩ := h a (Finset.mem_insert_self a s)
    obtain ⟨y, hy⟩ := Fin'.sum s h'
    rw [Finset.sum_insert ha, Finset.sum_insert ha, ← ih h', hx, hy, ← EReal.coe_add, ← EReal.coe_mul, ← EReal.coe_mul, ← EReal.coe_mul,
      ← EReal.coe_add, add_mul]

/-- Dividing a weighted sum of real numbers by a real that is not zero is weighting by the divided weights. -/
theorem div_sum {ι : Type} (s : Finset ι) {p v : ι → EReal} {d : EReal} (hp : ∀ i ∈ s, Fin' (p i)) (hv : ∀ i ∈ s, Fin' (v i)) (hd : Fin' d) (h0 : d ≠ 0) :
    Ideal.div (∑ i ∈ s, p i * v i) d = ∑ i ∈ s, Ideal.div (p i) d * v i := by
  obtain ⟨b, rfl⟩ := hd
  have hb : b ≠ 0 := fun h => h0 (by rw [h]; rfl)
  rw [Ideal.div_coe hb, sum_mul s _ fun i hi => (hp i hi).mul (hv i hi)]
  refine Finset.sum_congr rfl fun i _ => ?_
  rw [Ideal.div_coe hb, mul_right_comm]

/-- A row of scores none of which is `⊤`, one of them real: its largest is real. -/
theorem fin_fold_max {ι : Type} [Fintype ι] {s : ι → EReal} (hs : ∀ i, s i ≠ ⊤) {k : ι} (hk : Fin' (s k)) :
    Fin' (Finset.fold max ⊥ s Finset.univ) := by
  have e : Finset.fold max ⊥ s Finset.univ = Finset.sup Finset.univ s := rfl
  rw [e]
  refine fin_of_ne (ne_of_gt ?_) (ne_of_lt ?_)
  · exact lt_of_lt_of_le (bot_lt_iff_ne_bot.mpr hk.ne_bot) (Finset.le_sup (f := s) (Finset.mem_univ k))
  · exact (Finset.sup_lt_iff bot_lt_top).mpr fun i _ => lt_top_iff_ne_top.mpr (hs i)

/-- The weight of a score that is not `⊤`, against a real: real and not below zero. -/
theorem exp_sub {x y : EReal} (hx : x ≠ ⊤) (hy : Fin' y) : ∃ r : ℝ, 0 ≤ r ∧ Ideal.exp (x - y) = (r : EReal) := by
  obtain ⟨b, rfl⟩ := hy
  rcases eq_or_ne x ⊥ with rfl | hb
  · exact ⟨0, le_refl 0, by rw [EReal.bot_sub, Ideal.exp_bot]; rfl⟩
  · obtain ⟨a, rfl⟩ := fin_of_ne hb hx
    exact ⟨Real.exp (a - b), (Real.exp_pos _).le, by rw [← EReal.coe_sub, Ideal.exp_coe]⟩

/-- The sum of a row's weights is real and not zero. -/
theorem den_fin {ι : Type} [Fintype ι] {s : ι → EReal} {y : EReal} (hs : ∀ i, s i ≠ ⊤) {k : ι} (hk : Fin' (s k)) (hy : Fin' y) :
    Fin' (∑ i, Ideal.exp (s i - y)) ∧ (∑ i, Ideal.exp (s i - y)) ≠ 0 := by
  have hw := fun i => exp_sub (hs i) hy
  refine ⟨Fin'.sum _ fun i _ => let ⟨r, _, h⟩ := hw i; ⟨r, h⟩, ne_of_gt ?_⟩
  have hnn : ∀ i, (0 : EReal) ≤ Ideal.exp (s i - y) := fun i => by
    obtain ⟨r, h, e⟩ := hw i
    rw [e]
    exact EReal.coe_nonneg.mpr h
  refine lt_of_lt_of_le ?_ (Finset.single_le_sum (f := fun i => Ideal.exp (s i - y)) (fun i _ => hnn i) (Finset.mem_univ k))
  obtain ⟨a, ha⟩ := hk
  obtain ⟨b, rfl⟩ := hy
  show (0 : EReal) < Ideal.exp (s k - b)
  rw [ha, ← EReal.coe_sub, Ideal.exp_coe]
  exact EReal.coe_pos.mpr (Real.exp_pos _)

theorem ofBits_ninf : Ideal.ofBits FTy.f32 4286578688#32 = ⊥ := by
  simp [Ideal.ofBits, Ideal.ieee]

theorem ofBits_scale : Fin' (Ideal.ofBits FTy.f32 1035273459#32) :=
  ⟨_, rfl⟩

/-- A value whose absolute value is below infinity is a real number. -/
theorem fin_of_abs_lt {x : EReal} (h : Ideal.cmp .olt (max x (-x)) (Ideal.ofBits FTy.f32 2139095040#32) = 1#1) : Fin' x := by
  have e : Ideal.ofBits FTy.f32 2139095040#32 = ⊤ := by simp [Ideal.ofBits, Ideal.ieee]
  rw [e] at h
  have h' : max x (-x) < ⊤ := by
    by_contra hc
    have : Ideal.cmp .olt (max x (-x)) ⊤ = 0#1 := by simp [Ideal.cmp, hc]
    rw [this] at h
    exact absurd h (by decide)
  refine fin_of_ne ?_ (ne_of_lt (lt_of_le_of_lt (le_max_left _ _) h'))
  rintro rfl
  exact absurd (lt_of_le_of_lt (le_max_right _ _) h') (by simp)

end Cert.Soft
-- ==== Proof.Attn.Points.lean ====
module

public import proofs.«01_k».proof.Proof.Attn.HostOut
public import proofs.«01_k».proof.Proof.Real.Soft

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Cert.Soft

variable (m : (ℓ : Loc nD τ sig) → Buf (Elt Ideal) ℓ)

theorem idx : ∀ t : Fin cfg0.N, win0_0.index t = ![0, t.val, 0] ∧ win0_1.index t = ![3, t.val, 0] ∧ win0_2.index t = ![6, t.val, 0]
    ∧ win0_3.index t = ![0, t.val, 0] ∧ win0_4.index t = ![0, t.val, 0] ∧ (grid0.coords t 0).val = t.val :=
  (by decide +kernel : ∀ t : Fin grid0.N, _)

/-- The block a grid point works on. -/
def blkOf (t : Fin cfg0.N) : Fin 64 := ⟨t.val, t.isLt⟩

/-- The query rows of a point. -/
theorem q_at (c : Dev nD) (t : Fin cfg0.N) (h : Fin 4) : head (iblk m c 0 t) h = rows (m ((c : Thread nD τ).loc main_arg0)) 0 (by omega) h (blkOf t) := by
  funext r d
  unfold head rows blkOf
  blk_point [iblk, V, idx t]

/-- The key rows of a point. -/
theorem k_at (c : Dev nD) (t : Fin cfg0.N) (h : Fin 4) : head (iblk m c 1 t) h = rows (m ((c : Thread nD τ).loc main_arg0)) 12 (by omega) h (blkOf t) := by
  funext r d
  unfold head rows blkOf
  blk_point [iblk, V, idx t]

/-- The value rows of a point. -/
theorem v_at (c : Dev nD) (t : Fin cfg0.N) (h : Fin 4) : head (iblk m c 2 t) h = rows (m ((c : Thread nD τ).loc main_arg0)) 24 (by omega) h (blkOf t) := by
  funext r d
  unfold head rows blkOf
  blk_point [iblk, V, idx t]

end Cert.KernelIdeal.Hand
-- ==== Proof.Real.Div.lean ====
module

public import proofs.«01_k».proof.Proof.Real.Soft

@[expose] public section

noncomputable section

namespace Cert.Soft

open Idealize.ShloMosaic

/-- A real factor that is not negative is brought inside any sum. -/
theorem sum_mul_nonneg {ι : Type} (s : Finset ι) (f : ι → EReal) {r : ℝ} (hr : 0 ≤ r) : (∑ i ∈ s, f i) * (r : EReal) = ∑ i ∈ s, f i * (r : EReal) := by
  classical
  induction s using Finset.induction_on with
  | empty => rw [Finset.sum_empty, Finset.sum_empty, zero_mul]
  | insert a s ha ih =>
    rw [Finset.sum_insert ha, Finset.sum_insert ha, ← ih]
    exact EReal.right_distrib_of_nonneg_of_ne_top (EReal.coe_nonneg.mpr hr) (EReal.coe_ne_top r) _ _

/-- Dividing a weighted sum by a positive number is summing with the divided weights, whatever is summed. -/
theorem div_sum_pos {ι : Type} (s : Finset ι) (f v : ι → EReal) {D : EReal} (hD : Fin' D) (h0 : 0 ≤ D) (hne : D ≠ 0) :
    Ideal.div (∑ i ∈ s, f i * v i) D = ∑ i ∈ s, Ideal.div (f i) D * v i := by
  obtain ⟨r, rfl⟩ := hD
  have hr : r ≠ 0 := fun h => hne (by rw [h]; rfl)
  have hp : 0 ≤ 1 / r := one_div_nonneg.mpr (EReal.coe_nonneg.mp h0)
  rw [Ideal.div_coe hr, sum_mul_nonneg _ _ hp]
  exact Finset.sum_congr rfl fun i _ => by rw [Ideal.div_coe hr, mul_right_comm]

/-- The exponential of a real number is not negative. -/
theorem exp_nonneg {x : EReal} : Fin' x → 0 ≤ Ideal.exp x
  | ⟨a, ha⟩ => by rw [ha, Ideal.exp_coe]; exact EReal.coe_nonneg.mpr (Real.exp_pos a).le

end Cert.Soft
-- ==== Proof.Attn.Norm.lean ====
module

public import proofs.«01_k».proof.Proof.Attn.Points
public import proofs.«01_k».proof.Proof.Real.Div

@[expose] public section

set_option maxRecDepth 16384

noncomputable section

namespace Cert.KernelIdeal.Hand

open Idealize.ShloMosaic Idealize.ShloMosaic.TcCoe Idealize.SL.Sem
open Cert.Soft

/-- Every query reads the key at its own position. -/
theorem self_seen (b : Fin 64) (i : Fin 128) : seen (BitVec.ofNat 32 b.val) i.val (i.val + 128) = 1#1 :=
  (by decide +kernel : ∀ (b : Fin 64) (i : Fin 128), seen (BitVec.ofNat 32 b.val) i.val (i.val + 128) = 1#1) b i

theorem band_fin {prev cur : Fin 128 → Fin 128 → EReal} (hp : ∀ r d, Fin' (prev r d)) (hc : ∀ r d, Fin' (cur r d)) (j : Fin 256) (d : Fin 128) :
    Fin' (band prev cur j d) := by
  unfold band
  split_ifs with h
  · exact hp _ _
  · exact hc _ _

section

variable {q k kp : Fin 128 → Fin 128 → EReal} (hq : ∀ r d, Fin' (q r d)) (hk : ∀ r d, Fin' (k r d)) (hkp : ∀ r d, Fin' (kp r d))
include hq hk hkp

theorem dot_fin (i : Fin 128) (j : Fin 256) : Fin' ((∑ d, q i d * band kp k j d) * Ideal.ofBits FTy.f32 1035273459#32) :=
  (Fin'.sum _ fun d _ => (hq i d).mul (band_fin hkp hk j d)).mul ofBits_scale

/-- No score is plus infinity: real where the key is read, minus infinity where not. -/
theorem score_ne_top (b : Fin 64) (i : Fin 128) (j : Fin 256) : score (BitVec.ofNat 32 b.val) q k kp i j ≠ ⊤ := by
  unfold score
  generalize seen (BitVec.ofNat 32 b.val) i.val j.val = s
  unfold Scalar.select
  split_ifs
  · exact (dot_fin hq hk hkp i j).ne_top
  · rw [ofBits_ninf]
    exact bot_ne_top

/-- The score at the query's own position is real. -/
theorem self_fin (b : Fin 64) (i : Fin 128) : Fin' (score (BitVec.ofNat 32 b.val) q k kp i ⟨i.val + 128, by omega⟩) := by
  unfold score
  rw [self_seen]
  unfold Scalar.select
  exact dot_fin hq hk hkp i _

theorem top_fin (b : Fin 64) (i : Fin 128) : Fin' (top (BitVec.ofNat 32 b.val) q k kp i) := by
  unfold top
  rw [ofBits_ninf]
  exact fin_fold_max (score_ne_top hq hk hkp b i) (self_fin hq hk hkp b i)

theorem wt_fin (b : Fin 64) (i : Fin 128) (j : Fin 256) : Fin' (wt (BitVec.ofNat 32 b.val) q k kp i j) := by
  obtain ⟨r, _, hr⟩ := exp_sub (score_ne_top hq hk hkp b i j) (top_fin hq hk hkp b i)
  exact ⟨r, hr⟩

theorem sum_fin (b : Fin 64) (i : Fin 128) : Fin' (den (BitVec.ofNat 32 b.val) q k kp i) ∧ den (BitVec.ofNat 32 b.val) q k kp i ≠ 0 :=
  den_fin (score_ne_top hq hk hkp b i) (self_fin hq hk hkp b i) (top_fin hq hk hkp b i)

theorem den_nonneg (b : Fin 64) (i : Fin 128) : 0 ≤ den (BitVec.ofNat 32 b.val) q k kp i :=
  Finset.sum_nonneg fun j _ => by
    obtain ⟨r, h, e⟩ := exp_sub (score_ne_top hq hk hkp b i j) (top_fin hq hk hkp b i)
    exact le_of_le_of_eq (EReal.coe_nonneg.mpr h) e.symm

/-- Dividing the weighted sum is summing the divided weights, whatever the values. -/
theorem norm_sum (v vp : Fin 128 → Fin 128 → EReal) (b : Fin 64) (i d : Fin 128) :
    Ideal.div (∑ y : Fin 256, wt (BitVec.ofNat 32 b.val) q k kp i y * band vp v y d) (den (BitVec.ofNat 32 b.val) q k kp i)
      = ∑ y : Fin 256, Ideal.div (wt (BitVec.ofNat 32 b.val) q k kp i y) (den (BitVec.ofNat 32 b.val) q k kp i) * band vp v y d :=
  div_sum_pos _ _ _ (sum_fin hq hk hkp b i).1 (den_nonneg hq hk hkp b i) (sum_fin hq hk hkp b i).2

end

end Cert.KernelIdeal.Hand
-- ==== Proof.Attn.Final.lean ====
module

public import proofs.«01_k».proof.Proof.Attn.Norm
public import proofs.«01_k».proof.Proof.Gen.Pre_finite_qkv

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen
open Cert.Soft

variable (m : (ℓ : Loc nD τ sig) → Buf (Elt Ideal) ℓ)

/-- At the first point the block before is zeros. -/
theorem prev_first (a : FVec Ideal S36x8192x128 .f32) (o : ℕ) (ho : o + 4 ≤ 36) (h : Fin 4) (b : Fin 64) (hb : b.val = 0) :
    prevRows a o ho h b = fun _ _ => 0 := by
  funext r d
  unfold prevRows
  rw [dif_pos hb]

/-- At a later point the block before is the block of the point before. -/
theorem prev_later (a : FVec Ideal S36x8192x128 .f32) (o : ℕ) (ho : o + 4 ≤ 36) (h : Fin 4) (b b' : Fin 64) (hb : b.val = b'.val + 1) :
    prevRows a o ho h b = rows a o ho h b' := by
  funext r d
  unfold prevRows rows
  rw [dif_neg (by omega)]
  congr 2
  exact Fin.ext (by simp only []; omega)

/-- The point before a later point. -/
def before (t : Fin cfg0.N) : Fin cfg0.N := ⟨t.val - 1, Nat.lt_of_le_of_lt (Nat.sub_le _ _) t.isLt⟩

theorem lt64 (t : Fin cfg0.N) : t.val < 64 := t.isLt

theorem kp_at (c : Dev nD) (t : Fin cfg0.N) (ht : ¬ t.val % 64 = 0) (h : Fin 4) :
    head (outsAt0 m c (t.val - 1) (Nat.lt_of_le_of_lt (Nat.sub_le _ _) t.isLt)).2.2.1 h = prevRows (m ((c : Thread nD τ).loc main_arg0)) 12 (by omega) h (blkOf t) := by
  have h64 := lt64 t
  rw [prev_later _ 12 _ h (blkOf t) (blkOf (before t)) (show t.val = t.val - 1 + 1 from by omega), ← k_at]
  exact congrArg (fun x => head x h) (carried_k m c (before t))

theorem vp_at (c : Dev nD) (t : Fin cfg0.N) (ht : ¬ t.val % 64 = 0) (h : Fin 4) :
    head (outsAt0 m c (t.val - 1) (Nat.lt_of_le_of_lt (Nat.sub_le _ _) t.isLt)).2.2.2 h = prevRows (m ((c : Thread nD τ).loc main_arg0)) 24 (by omega) h (blkOf t) := by
  have h64 := lt64 t
  rw [prev_later _ 24 _ h (blkOf t) (blkOf (before t)) (show t.val = t.val - 1 + 1 from by omega), ← v_at]
  exact congrArg (fun x => head x h) (carried_v m c (before t))

/-- What a point stores in the log-sum-exp block. -/
theorem lse_pt (c : Dev nD) (t : Fin cfg0.N) (h : Fin 4) (i d : Fin 128) :
    (outsAt0 m c t.val t.isLt).2.1 (ix3 h i d) = lseAt (m ((c : Thread nD τ).loc main_arg0)) (blkOf t) h i := by
  have h64 := lt64 t
  unfold lseAt
  by_cases ht : t.val % 64 = 0
  · refine (lse_A m c t ht _).trans ?_
    show top (BitVec.ofNat 32 (grid0.coords t 0).val) (head (iblk m c 0 t) h) (head (iblk m c 1 t) h) (fun _ _ => 0) i
      + Ideal.log (den (BitVec.ofNat 32 (grid0.coords t 0).val) (head (iblk m c 0 t) h) (head (iblk m c 1 t) h) (fun _ _ => 0) i) = _
    rw [prev_first _ 12 _ _ (blkOf t) (show t.val = 0 from by omega), q_at, k_at, (idx t).2.2.2.2.2]
    rfl
  · refine (lse_B m c t ht _).trans ?_
    show top (BitVec.ofNat 32 (grid0.coords t 0).val) (head (iblk m c 0 t) h) (head (iblk m c 1 t) h) (head (outsAt0 m c (t.val - 1) (Nat.lt_of_le_of_lt (Nat.sub_le _ _) t.isLt)).2.2.1 h) i
      + Ideal.log (den (BitVec.ofNat 32 (grid0.coords t 0).val) (head (iblk m c 0 t) h) (head (iblk m c 1 t) h) (head (outsAt0 m c (t.val - 1) (Nat.lt_of_le_of_lt (Nat.sub_le _ _) t.isLt)).2.2.1 h) i) = _
    rw [kp_at m c t ht, q_at, k_at, (idx t).2.2.2.2.2]
    rfl

/-- What a point stores in the output block, its queries and keys being real. -/
theorem out_pt (c : Dev nD) (hq : ∀ (h : Fin 4) (n : Fin 8192) (d : Fin 128), Fin' (m ((c : Thread nD τ).loc main_arg0) (ix3 ⟨0 + h.val, by omega⟩ n d)))
    (hk : ∀ (h : Fin 4) (n : Fin 8192) (d : Fin 128), Fin' (m ((c : Thread nD τ).loc main_arg0) (ix3 ⟨12 + h.val, by omega⟩ n d))) (t : Fin cfg0.N) (h : Fin 4) (i d : Fin 128) :
    (outsAt0 m c t.val t.isLt).1 (ix3 h i d) = outAt (m ((c : Thread nD τ).loc main_arg0)) (blkOf t) h i d := by
  have h64 := lt64 t
  have hp : ∀ (r d : Fin 128), Fin' (prevRows (m ((c : Thread nD τ).loc main_arg0)) 12 (by omega) h (blkOf t) r d) := fun r d => by
    unfold prevRows
    split_ifs
    · exact Fin'.zero
    · exact hk h _ d
  refine Eq.trans ?_ (norm_sum (fun r d => hq h _ d : ∀ r d, Fin' (rows (m ((c : Thread nD τ).loc main_arg0)) 0 (by omega) h (blkOf t) r d))
    (fun r d => hk h _ d : ∀ r d, Fin' (rows (m ((c : Thread nD τ).loc main_arg0)) 12 (by omega) h (blkOf t) r d)) hp
    (rows (m ((c : Thread nD τ).loc main_arg0)) 24 (by omega) h (blkOf t)) (prevRows (m ((c : Thread nD τ).loc main_arg0)) 24 (by omega) h (blkOf t)) (blkOf t) i d)
  by_cases ht : t.val % 64 = 0
  · refine (out_A m c t ht _).trans ?_
    show Ideal.div (∑ y : Fin 256, wt (BitVec.ofNat 32 (grid0.coords t 0).val) (head (iblk m c 0 t) h) (head (iblk m c 1 t) h) (fun _ _ => 0) i y * band (fun _ _ => 0) (head (iblk m c 2 t) h) y d)
        (den (BitVec.ofNat 32 (grid0.coords t 0).val) (head (iblk m c 0 t) h) (head (iblk m c 1 t) h) (fun _ _ => 0) i) = _
    rw [prev_first _ 12 _ _ (blkOf t) (show t.val = 0 from by omega), prev_first _ 24 _ _ (blkOf t) (show t.val = 0 from by omega), q_at, k_at, v_at, (idx t).2.2.2.2.2]
    rfl
  · refine (out_B m c t ht _).trans ?_
    show Ideal.div (∑ y : Fin 256, wt (BitVec.ofNat 32 (grid0.coords t 0).val) (head (iblk m c 0 t) h) (head (iblk m c 1 t) h) (head (outsAt0 m c (t.val - 1) (Nat.lt_of_le_of_lt (Nat.sub_le _ _) t.isLt)).2.2.1 h) i y
          * band (head (outsAt0 m c (t.val - 1) (Nat.lt_of_le_of_lt (Nat.sub_le _ _) t.isLt)).2.2.2 h) (head (iblk m c 2 t) h) y d)
        (den (BitVec.ofNat 32 (grid0.coords t 0).val) (head (iblk m c 0 t) h) (head (iblk m c 1 t) h) (head (outsAt0 m c (t.val - 1) (Nat.lt_of_le_of_lt (Nat.sub_le _ _) t.isLt)).2.2.1 h) i) = _
    rw [kp_at m c t ht, vp_at m c t ht, q_at, k_at, v_at, (idx t).2.2.2.2.2]
    rfl

theorem row_blk (t : Fin cfg0.N) (r : Fin 128) (n : Fin 8192) (hn : n.val = t.val * 128 + r.val) :
    (⟨n.val / 128, by omega⟩ : Fin 64) = blkOf t ∧ (⟨n.val % 128, by omega⟩ : Fin 128) = r :=
  ⟨Fin.ext (show n.val / 128 = t.val from by omega), Fin.ext (show n.val % 128 = r.val from by omega)⟩

/-- Where a point's block lies in the log-sum-exp array. -/
theorem emb4 (t : Fin cfg0.N) (h : Fin 4) (i d : Fin 128) (G : FVec Ideal S4x8192x128 .f32) :
    G ((win0_4.blk t).view.emb (ix3 h i d)) = G (ix3 h ⟨t.val * 128 + i.val, by have := lt64 t; omega⟩ d) := by
  blk_point [idx t]

/-- Where a point's block lies in the output array. -/
theorem emb3 (t : Fin cfg0.N) (h : Fin 4) (i d : Fin 128) (G : FVec Ideal S4x8192x128 .f32) :
    G ((win0_3.blk t).view.emb (ix3 h i d)) = G (ix3 h ⟨t.val * 128 + i.val, by have := lt64 t; omega⟩ d) := by
  blk_point [idx t]

/-- The log-sum-exp array after the run. -/
theorem final4 (c : Dev nD) : (dats m 0 c).arrAt 4 (cfgs 0).N = Cert.ReferenceIdeal.Read.val_main_v93 (F := Ideal) (m ((c : Thread nD τ).loc main_arg0)) := by
  refine (dats m 0 c).arrAt_eq_of_covers 4 _ (by decide +kernel) fun t hf y => ?_
  blk_simp
  rw [after0_4]
  have hy : ∀ (h : Fin 4) (i d : Fin 128), (outsAt0 m c t.val t.isLt).2.1 (ix3 h i d)
      = Cert.ReferenceIdeal.Read.val_main_v93 (F := Ideal) (m ((c : Thread nD τ).loc main_arg0)) ((win0_4.blk t).view.emb (ix3 h i d)) := fun h i d => by
    obtain ⟨e, e'⟩ := row_blk t i ⟨t.val * 128 + i.val, by have := lt64 t; omega⟩ rfl
    refine (lse_pt m c t h i d).trans (Eq.symm ?_)
    refine (emb4 t h i d _).trans ((v93_at _ _ _ _).trans ?_)
    rw [e, e']
  exact (congrArg _ (eq_ix3 y)).trans ((hy (y 0) (y 1) (y 2)).trans (congrArg (fun z => Cert.ReferenceIdeal.Read.val_main_v93 (F := Ideal) (m ((c : Thread nD τ).loc main_arg0)) ((win0_4.blk t).view.emb z)) (eq_ix3 y).symm))

/-- The output array after the run, the rows being real. -/
theorem final3 (c : Dev nD) (hq : ∀ (h : Fin 4) (n : Fin 8192) (d : Fin 128), Fin' (m ((c : Thread nD τ).loc main_arg0) (ix3 ⟨0 + h.val, by omega⟩ n d)))
    (hk : ∀ (h : Fin 4) (n : Fin 8192) (d : Fin 128), Fin' (m ((c : Thread nD τ).loc main_arg0) (ix3 ⟨12 + h.val, by omega⟩ n d))) :
    (dats m 0 c).arrAt 3 (cfgs 0).N = Cert.ReferenceIdeal.Read.val_main_v89 (F := Ideal) (m ((c : Thread nD τ).loc main_arg0)) := by
  refine (dats m 0 c).arrAt_eq_of_covers 3 _ (by decide +kernel) fun t ht y => ?_
  blk_simp
  rw [after0_3]
  have hy : ∀ (h : Fin 4) (i d : Fin 128), (outsAt0 m c t.val t.isLt).1 (ix3 h i d)
      = Cert.ReferenceIdeal.Read.val_main_v89 (F := Ideal) (m ((c : Thread nD τ).loc main_arg0)) ((win0_3.blk t).view.emb (ix3 h i d)) := fun h i d => by
    obtain ⟨e, e'⟩ := row_blk t i ⟨t.val * 128 + i.val, by have := lt64 t; omega⟩ rfl
    refine (out_pt m c hq hk t h i d).trans (Eq.symm ?_)
    refine (emb3 t h i d _).trans ((v89_at _ _ _ _).trans ?_)
    rw [e, e']
  exact (congrArg _ (eq_ix3 y)).trans ((hy (y 0) (y 1) (y 2)).trans (congrArg (fun z => Cert.ReferenceIdeal.Read.val_main_v89 (F := Ideal) (m ((c : Thread nD τ).loc main_arg0)) ((win0_3.blk t).view.emb z)) (eq_ix3 y).symm))

/-- Under the precondition every row is real. -/
theorem real_q (h : Cert.Pre_KernelIdeal_finite_qkv m) (c : Dev nD) (e : Fin 4) (n : Fin 8192) (d : Fin 128) :
    Fin' (m ((c : Thread nD τ).loc main_arg0) (ix3 ⟨0 + e.val, by omega⟩ n d)) := by
  have hx := fin_of_abs_lt (congrFun (h c).1 (ix3 e n d))
  refine Eq.mp (congrArg Fin' (congrArg (m ((c : Thread nD τ).loc main_arg0)) (funext fun a => Fin.ext ?_))) hx
  match a with
  | ⟨0, _⟩ => rfl
  | ⟨1, _⟩ => exact (show 0 + n.val = n.val from by omega)
  | ⟨2, _⟩ => exact (show 0 + d.val = d.val from by omega)

theorem real_k (h : Cert.Pre_KernelIdeal_finite_qkv m) (c : Dev nD) (e : Fin 4) (n : Fin 8192) (d : Fin 128) :
    Fin' (m ((c : Thread nD τ).loc main_arg0) (ix3 ⟨12 + e.val, by omega⟩ n d)) := by
  have hx := fin_of_abs_lt (congrFun (h c).2 (ix3 e n d))
  refine Eq.mp (congrArg Fin' (congrArg (m ((c : Thread nD τ).loc main_arg0)) (funext fun a => Fin.ext ?_))) hx
  match a with
  | ⟨0, _⟩ => rfl
  | ⟨1, _⟩ => exact (show 0 + n.val = n.val from by omega)
  | ⟨2, _⟩ => exact (show 0 + d.val = d.val from by omega)

/-- The attention of one head group: the kernel's two arrays are the reference's. -/
theorem algebraic : Cert.algebraic_KernelIdeal_ReferenceIdeal_pre_finite_qkv := by
  intro m ρ m' ρ' hpre hagree
  refine ⟨_, _, (θ_run defs _ _).mono (fun r h c => ⟨(h c).1.trans (final3 m c (real_q m hpre c) (real_k m hpre c)), (h c).2.1.trans (final4 m c), (h c).2.2⟩) (Value.run_blocks m ρ), ?_⟩
  refine (θ_run Cert.ReferenceIdeal.defs _ _).mono (fun r h c => ⟨(h c).1.trans ?_, (h c).2.1.trans ?_, (h c).2.2⟩) (Cert.ReferenceIdeal.Value.run m' ρ')
  · rw [← hagree c]; exact Cert.ReferenceIdeal.Read.val_main_v89_eq ..
  · rw [← hagree c]; exact Cert.ReferenceIdeal.Read.val_main_v93_eq ..

end Cert.KernelIdeal.Hand
-- ==== Proof.Mem.Kv.lean ====
module

public import proofs.«01_k».proof.Defs
public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Kernel4Ideal.Hand

open Idealize.ShloMosaic Idealize.ShloMosaic.TcCoe Idealize.SL.Sem
open Idealize.ShloMosaic.Pipeline (Dat)
open Cert.Kernel4Ideal Cert.Kernel4Ideal.Gen
open Cert.Reference4Ideal.Read

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

set_option maxHeartbeats 1600000 in
/-- The value rows: the norm of the memory rows times the value matrix. -/
theorem final6 (c : Dev nD) : (dats m 0 c).arrAt 6 (cfgs 0).N
    = val_main_v31 (F := Ideal) (m ((c : Thread nD τ).loc main_arg0)) (m ((c : Thread nD τ).loc main_arg1)) (m ((c : Thread nD τ).loc main_arg3)) := by
  refine (dats m 0 c).arrAt_eq_of_after_last 6 t0_0 (by decide +kernel) _ fun j => ?_
  blk_simp
  rw [after0_6]
  frame_out
  unfold_payloads
  pointwise [val_main_v31, val_main_v29, val_main_v28, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t0_0]

set_option maxHeartbeats 1600000 in
/-- The key projection before the head norms. -/
theorem proj_at (c : Dev nD) (r : Fin 256) (n : Fin 512) :
    k0_pay3 (F := Ideal) (iblk m c 0 t0_0) (iblk m c 1 t0_0) (iblk m c 2 t0_0) (ix2 r n)
      = val_main_v13 (F := Ideal) (m ((c : Thread nD τ).loc main_arg0)) (m ((c : Thread nD τ).loc main_arg1)) (m ((c : Thread nD τ).loc main_arg2)) (ix3 0 r n) := by
  unfold_payloads
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t0_0]

/-- The head norm's gain, read off its block. -/
theorem gain_at (c : Dev nD) (l : Fin 128) :
    (iblk m c 4 t0_0 : FVec Ideal S1x128 .f32) (ix2 0 l) = m ((c : Thread nD τ).loc main_arg4) (ix1 l) := by
  blk_point [iblk, V, idx t0_0]

set_option maxHeartbeats 2000000 in
/-- The key rows: the same with the key matrix, each head of 128 lanes normed again. -/
theorem final5 (c : Dev nD) : (dats m 0 c).arrAt 5 (cfgs 0).N
    = val_main_v30 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_after_last 5 t0_0 (by decide +kernel) _ fun j => ?_
  blk_simp
  rw [after0_5]
  unfold out0_5 k0_pay11
  frame_out
  have hY := proj_at m c
  have hG := gain_at m c
  unfold k0_pay5
  dsimp only
  generalize k0_pay3 (F := Ideal) (iblk m c 0 t0_0) (iblk m c 1 t0_0) (iblk m c 2 t0_0) = Y at hY ⊢
  generalize iblk m c 4 t0_0 = B at hG ⊢
  generalize m ((c : Thread nD τ).loc main_arg4) = G at hG ⊢
  canon_tiles x h
  all_goals
    unfold_payloads
    pointwise [val_main_v30, val_main_v27, val_main_v26, val_main_v25, val_main_v24, val_main_v23, val_main_v22, val_main_v21, val_main_v20, val_main_v19,
      val_main_v18, val_main_v17, val_main_v16, val_main_v15, val_main_v14, val_main_cst_2, val_main_cst_3, val_main_cst_4, hY, hG]
    blk_point []

/-- The memory's keys and values: the kernel's two arrays are the reference's. -/
theorem algebraic : Cert.algebraic_Kernel4Ideal_Reference4Ideal := by
  intro m ρ m' ρ' _ hagree
  refine ⟨_, _, (θ_run defs _ _).mono (fun r h c => ⟨(h c).1.trans (final5 m c), (h c).2.1.trans (final6 m c), (h c).2.2⟩) (Value.run_blocks m ρ), ?_⟩
  refine (θ_run Cert.Reference4Ideal.defs _ _).mono (fun r h c => ⟨(h c).1.trans ?_, (h c).2.1.trans ?_, (h c).2.2⟩) (Cert.Reference4Ideal.Value.run m' ρ')
  · rw [(hagree c).1, (hagree c).2.1, (hagree c).2.2.1, (hagree c).2.2.2.2]; exact val_main_v30_eq ..
  · rw [(hagree c).1, (hagree c).2.1, (hagree c).2.2.2.1]; exact val_main_v31_eq ..

end Cert.Kernel4Ideal.Hand
-- ==== Proof.Mix.Norm.lean ====
module

public import proofs.«01_k».proof.Proof.Real.Div

@[expose] public section

noncomputable section

namespace Cert.Soft

open Idealize.ShloMosaic

/-! ## Rows and heads over the extended reals -/

/-- A row over its root mean square (`c` entries), times the gain. -/
def normedBy {n : ℕ} (c : EReal) (y g : Fin n → EReal) (d : Fin n) : EReal :=
  y d * Ideal.rsqrt (Ideal.div (∑ e : Fin n, y e * y e) c + Ideal.ofBits FTy.f32 0x358637BD#32) * g d

/-- One of three. -/
def pick {α : Type} (g : Fin 3) (a b c : α) : α := match g with
  | 0 => a
  | 1 => b
  | 2 => c

/-- A group's share of the three groups' summed weights. -/
def share (a b c : EReal) (g : Fin 3) : EReal :=
  Ideal.div (Ideal.exp (pick g a b c - max (max a b) c)) (Ideal.exp (a - max (max a b) c) + Ideal.exp (b - max (max a b) c) + Ideal.exp (c - max (max a b) c))

/-- The scaled score of a query against key `j`. -/
def scr (q : Fin 128 → EReal) (k : Fin 256 → Fin 128 → EReal) (j : Fin 256) : EReal :=
  (∑ e : Fin 128, q e * k j e) * Ideal.ofBits FTy.f32 0x3DB504F3#32

/-- The largest score. -/
def scrMax (q : Fin 128 → EReal) (k : Fin 256 → Fin 128 → EReal) : EReal :=
  Finset.fold max (Ideal.ofBits FTy.f32 0xFF800000#32) (fun j => scr q k j) Finset.univ

/-- The weight of key `j`, before the division. -/
def scrExp (q : Fin 128 → EReal) (k : Fin 256 → Fin 128 → EReal) (j : Fin 256) : EReal := Ideal.exp (scr q k j - scrMax q k)

/-- Attention, the weighted sum divided. -/
def attDiv (q : Fin 128 → EReal) (k v : Fin 256 → Fin 128 → EReal) (d : Fin 128) : EReal :=
  Ideal.div (∑ j : Fin 256, scrExp q k j * v j d) (∑ j : Fin 256, scrExp q k j)

/-- Attention, the divided weights summed. -/
def attSum (q : Fin 128 → EReal) (k v : Fin 256 → Fin 128 → EReal) (d : Fin 128) : EReal :=
  ∑ j : Fin 256, Ideal.div (scrExp q k j) (∑ i : Fin 256, scrExp q k i) * v j d

theorem max3 (f : Fin 3 → EReal) : Finset.fold max (Ideal.ofBits FTy.f32 0xFF800000#32) f Finset.univ = max (max (f 0) (f 1)) (f 2) := by
  rw [ofBits_ninf]
  have e : Finset.fold max ⊥ f Finset.univ = Finset.sup Finset.univ f := rfl
  have u : (Finset.univ : Finset (Fin 3)) = {0, 1, 2} := rfl
  rw [e, u, Finset.sup_insert, Finset.sup_insert, Finset.sup_singleton]
  exact (max_assoc _ _ _).symm

theorem c128 : ∃ r : ℝ, 0 < r ∧ Ideal.ofBits FTy.f32 0x43000000#32 = (r : EReal) := by
  refine ⟨_, ?_, rfl⟩
  norm_num [Ideal.ieee]
  rw [if_neg (by decide)]
  positivity

theorem ceps : ∃ r : ℝ, 0 < r ∧ Ideal.ofBits FTy.f32 0x358637BD#32 = (r : EReal) := by
  refine ⟨_, ?_, rfl⟩
  norm_num [Ideal.ieee]
  rw [if_neg (by decide)]
  positivity

theorem sq_sum {n : ℕ} {y : Fin n → EReal} (hy : ∀ d, Fin' (y d)) : ∃ r : ℝ, 0 ≤ r ∧ (∑ e : Fin n, y e * y e) = (r : EReal) := by
  obtain ⟨r, hr⟩ := Fin'.sum Finset.univ (f := fun e => y e * y e) fun e _ => (hy e).mul (hy e)
  refine ⟨r, EReal.coe_nonneg.mp ?_, hr⟩
  rw [← hr]
  refine Finset.sum_nonneg fun e _ => ?_
  obtain ⟨a, ha⟩ := hy e
  rw [ha, ← EReal.coe_mul]
  exact EReal.coe_nonneg.mpr (mul_self_nonneg a)

theorem not_fin_sq {x : EReal} (h : ¬ Fin' x) : x * x = ⊤ := by
  rcases eq_or_ne x ⊥ with rfl | hb
  · exact EReal.bot_mul_bot
  rcases eq_or_ne x ⊤ with rfl | ht
  · exact EReal.top_mul_top
  exact absurd (fin_of_ne hb ht) h

theorem sq_nonneg' (x : EReal) : 0 ≤ x * x := by
  by_cases h : Fin' x
  · obtain ⟨a, rfl⟩ := h
    rw [← EReal.coe_mul]
    exact EReal.coe_nonneg.mpr (mul_self_nonneg a)
  · rw [not_fin_sq h]
    exact le_top

/-- A normed row is real when its gains are: of a row that is not real the norm is zero. -/
theorem normedBy_fin {n : ℕ} {c : EReal} (hc : ∃ r : ℝ, 0 < r ∧ c = (r : EReal)) (y : Fin n → EReal) {g : Fin n → EReal} (hg : ∀ d, Fin' (g d)) (d : Fin n) :
    Fin' (normedBy c y g d) := by
  obtain ⟨b, hb, eb⟩ := hc
  obtain ⟨e, he, ee⟩ := ceps
  unfold normedBy
  by_cases hy : ∀ d, Fin' (y d)
  · obtain ⟨a, ha, ea⟩ := sq_sum hy
    refine ((hy d).mul ?_).mul (hg d)
    have hpos : 0 < a * (1 / b) + e := by positivity
    rw [ea, eb, ee, Ideal.div_coe (ne_of_gt hb), ← EReal.coe_mul, ← EReal.coe_add, Ideal.rsqrt_coe, if_neg (not_lt.mpr hpos.le), if_neg (ne_of_gt hpos)]
    exact Fin'.coe _
  · obtain ⟨k, hk⟩ := not_forall.mp hy
    have ht : (∑ e : Fin n, y e * y e) = ⊤ :=
      top_le_iff.mp ((not_fin_sq hk).symm.le.trans (Finset.single_le_sum (f := fun e => y e * y e) (fun i _ => sq_nonneg' (y i)) (Finset.mem_univ k)))
    rw [ht, eb, ee, Ideal.div_coe (ne_of_gt hb), EReal.top_mul_coe_of_pos (one_div_pos.mpr hb), EReal.top_add_coe, Ideal.rsqrt_top, mul_zero, zero_mul]
    exact Fin'.zero

theorem scr_fin {q : Fin 128 → EReal} {k : Fin 256 → Fin 128 → EReal} (hq : ∀ e, Fin' (q e)) (hk : ∀ j e, Fin' (k j e)) (j : Fin 256) : Fin' (scr q k j) :=
  (Fin'.sum _ fun e _ => (hq e).mul (hk j e)).mul ofBits_scale

/-- Of real queries and keys the two are the same, whatever the values. -/
theorem attDiv_eq {q : Fin 128 → EReal} {k v : Fin 256 → Fin 128 → EReal} (hq : ∀ e, Fin' (q e)) (hk : ∀ j e, Fin' (k j e)) (d : Fin 128) :
    attDiv q k v d = attSum q k v d := by
  have hs := scr_fin hq hk
  have hm : Fin' (scrMax q k) := by
    unfold scrMax
    rw [ofBits_ninf]
    exact fin_fold_max (fun j => (hs j).ne_top) (hs 0)
  have hd := den_fin (s := scr q k) (fun j => (hs j).ne_top) (hs 0) hm
  exact div_sum_pos _ _ _ hd.1 (Finset.sum_nonneg fun j _ => exp_nonneg ((hs j).sub hm)) hd.2

end Cert.Soft
-- ==== Proof.Mix.Block.lean ====
module

public import proofs.«01_k».proof.Proof.Gen.Kernel3Ideal.Value
public import Idealize.ShloMosaic.Lib.Pipeline.ValueKit
public import Idealize.ShloMosaic.Lib.Pointwise
public import Idealize.ShloMosaic.Lib.Pipeline.ReadBack
public import proofs.«01_k».proof.Proof.Mix.Norm

@[expose] public section

set_option maxRecDepth 16384

noncomputable section

namespace Cert.Kernel3Ideal.Hand

open Idealize.ShloMosaic Idealize.ShloMosaic.TcCoe Idealize.SL.Sem
open Idealize.ShloMosaic.Pipeline (Dat)
open Cert.Kernel3Ideal Cert.Kernel3Ideal.Gen
open Cert.Soft

variable (m : (ℓ : Loc nD τ sig) → Buf (Elt Ideal) ℓ)

/-- A block's mixed rows: lane `g * 512 + h * 128 + d` is head `h` of group `g` times its share, the last 512 lanes are the convolution's. -/
def mixed (o0 o1 o2 l0 l1 l2 : FVec Ideal S4x512x128 .f32) (cv : FVec Ideal S512x512 .f32) : FVec Ideal S512x2048 .bf16 := fun y =>
  if h : (y 1).val < 1536 then
    let a : S4x512x128.Idx := ix3 ⟨(y 1).val / 128 % 4, Nat.mod_lt _ (by decide)⟩ (y 0) ⟨(y 1).val % 128, Nat.mod_lt _ (by decide)⟩
    share (l0 a) (l1 a) (l2 a) ⟨(y 1).val / 512, by omega⟩ * pick ⟨(y 1).val / 512, by omega⟩ (o0 a) (o1 a) (o2 a)
  else cv (ix2 (y 0) ⟨(y 1).val - 1536, by have : (y 1).val < 2048 := (y 1).isLt; omega⟩)

theorem mixed_at (o0 o1 o2 l0 l1 l2 : FVec Ideal S4x512x128 .f32) (cv : FVec Ideal S512x512 .f32) (y : S512x2048.Idx) (g : Fin 3) (h : Fin 4) (r : Fin 512) (d : Fin 128)
    (h0 : (y 0).val = r.val) (h1 : (y 1).val = g.val * 512 + h.val * 128 + d.val) :
    mixed o0 o1 o2 l0 l1 l2 cv y = share (l0 (ix3 h r d)) (l1 (ix3 h r d)) (l2 (ix3 h r d)) g * pick g (o0 (ix3 h r d)) (o1 (ix3 h r d)) (o2 (ix3 h r d)) := by
  unfold mixed
  rw [dif_pos (by omega)]
  have e0 : y 0 = r := Fin.ext h0
  have eg : (⟨(y 1).val / 512, by omega⟩ : Fin 3) = g := Fin.ext (show (y 1).val / 512 = g.val from by omega)
  have eh : (⟨(y 1).val / 128 % 4, Nat.mod_lt _ (by decide)⟩ : Fin 4) = h := Fin.ext (show (y 1).val / 128 % 4 = h.val from by omega)
  have ed : (⟨(y 1).val % 128, Nat.mod_lt _ (by decide)⟩ : Fin 128) = d := Fin.ext (show (y 1).val % 128 = d.val from by omega)
  dsimp only
  rw [e0, eg, eh, ed]

theorem mixed_hi (o0 o1 o2 l0 l1 l2 : FVec Ideal S4x512x128 .f32) (cv : FVec Ideal S512x512 .f32) (y : S512x2048.Idx) (r d : Fin 512)
    (h0 : (y 0).val = r.val) (h1 : (y 1).val = 1536 + d.val) : mixed o0 o1 o2 l0 l1 l2 cv y = cv (ix2 r d) := by
  unfold mixed
  rw [dif_neg (by omega)]
  have e0 : y 0 = r := Fin.ext h0
  have ed : (⟨(y 1).val - 1536, by have : (y 1).val < 2048 := (y 1).isLt; omega⟩ : Fin 512) = d := Fin.ext (show (y 1).val - 1536 = d.val from by omega)
  rw [e0, ed]

/-- A head's rows of a block of queries. -/
def qhead (q : FVec Ideal S512x512 .f32) (qn : FVec Ideal S1x128 .f32) (h : Fin 4) (r : Fin 512) : Fin 128 → EReal :=
  normedBy (Ideal.ofBits FTy.f32 0x43000000#32) (fun e => q (ix2 r ⟨h.val * 128 + e.val, by omega⟩)) (fun e => qn (ix2 0 e))

/-- A head's rows of the memory. -/
def mhead (k : FVec Ideal S256x512 .f32) (h : Fin 4) (j : Fin 256) (e : Fin 128) : EReal := k (ix2 j ⟨h.val * 128 + e.val, by omega⟩)

/-- A block's rows after the attention into the memory. -/
def read (q : FVec Ideal S512x512 .f32) (qn : FVec Ideal S1x128 .f32) (k v : FVec Ideal S256x512 .f32) : FVec Ideal S512x512 .bf16 := fun y =>
  attDiv (qhead q qn ⟨(y 1).val / 128, by have : (y 1).val < 512 := (y 1).isLt; omega⟩ (y 0)) (mhead k ⟨(y 1).val / 128, by have : (y 1).val < 512 := (y 1).isLt; omega⟩)
    (mhead v ⟨(y 1).val / 128, by have : (y 1).val < 512 := (y 1).isLt; omega⟩) ⟨(y 1).val % 128, Nat.mod_lt _ (by decide)⟩

theorem read_at (q : FVec Ideal S512x512 .f32) (qn : FVec Ideal S1x128 .f32) (k v : FVec Ideal S256x512 .f32) (y : S512x512.Idx) (h : Fin 4) (r : Fin 512) (d : Fin 128)
    (h0 : (y 0).val = r.val) (h1 : (y 1).val = h.val * 128 + d.val) : read q qn k v y = attDiv (qhead q qn h r) (mhead k h) (mhead v h) d := by
  have e0 : y 0 = r := Fin.ext h0
  have eh : (⟨(y 1).val / 128, by have : (y 1).val < 512 := (y 1).isLt; omega⟩ : Fin 4) = h := Fin.ext (show (y 1).val / 128 = h.val from by omega)
  have ed : (⟨(y 1).val % 128, Nat.mod_lt _ (by decide)⟩ : Fin 128) = d := Fin.ext (show (y 1).val % 128 = d.val from by omega)
  unfold read
  rw [e0, eh, ed]

/-- The whole of a scratch, read back. -/
theorem back0 {L : List (View.Piece (Elt Ideal) S512x2048 .bf16)} {G : FVec Ideal S512x2048 .bf16} (h : ∀ y, View.canon L y = G y) :
    (View.whole cc0_scratch0).readCov L (Rect.unit ![0, 0] ![512, 2048] inb_S512x2048_S512x2048_0_0).toLoadRect = G := by
  rw [View.readCov_eq_canon']
  funext j
  refine (h _).trans (congrArg G (funext fun a => Fin.ext ?_))
  match a with
  | ⟨0, _⟩ => exact (show 0 + 1 * (j 0).val = (j 0).val from by omega)
  | ⟨1, _⟩ => exact (show 0 + 1 * (j 1).val = (j 1).val from by omega)

theorem back1 {L : List (View.Piece (Elt Ideal) S512x512 .bf16)} {G : FVec Ideal S512x512 .bf16} (h : ∀ y, View.canon L y = G y) :
    (View.whole cc0_scratch1).readCov L (Rect.unit ![0, 0] ![512, 512] inb_S512x512_S512x512_0_0).toLoadRect = G := by
  rw [View.readCov_eq_canon']
  funext j
  refine (h _).trans (congrArg G (funext fun a => Fin.ext ?_))
  match a with
  | ⟨0, _⟩ => exact (show 0 + 1 * (j 0).val = (j 0).val from by omega)
  | ⟨1, _⟩ => exact (show 0 + 1 * (j 1).val = (j 1).val from by omega)

set_option maxHeartbeats 4000000 in
/-- What a point stores, over the mixed rows and the memory's reading. -/
theorem out_pt (c : Dev nD) (t : Fin cfg0.N) (j : S512x2048.Idx) : outsAt0 m c t j
    = let A := mixed (iblk m c 1 t) (iblk m c 2 t) (iblk m c 3 t) (iblk m c 4 t) (iblk m c 5 t) (iblk m c 6 t) (iblk m c 7 t)
      let X := k0_pay51 (F := Ideal) (iblk m c 0 t) A (iblk m c 8 t)
      let q := k0_pay54 (F := Ideal) X (k0_pay52 (F := Ideal) (iblk m c 9 t)) (k0_pay53 (F := Ideal) (iblk m c 0 t) A (iblk m c 8 t)) (iblk m c 10 t)
      k0_pay1 (F := Ideal) X (read q (iblk m c 11 t) (iblk m c 12 t) (iblk m c 13 t)) (iblk m c 14 t) j := by
  unfold outsAt0 out0_A_15
  dsimp only
  frame_out
  rw [back0 (G := mixed (iblk m c 1 t) (iblk m c 2 t) (iblk m c 3 t) (iblk m c 4 t) (iblk m c 5 t) (iblk m c 6 t) (iblk m c 7 t)) ?a]
  case a =>
    intro y
    generalize iblk m c 1 t = o0
    generalize iblk m c 2 t = o1
    generalize iblk m c 3 t = o2
    generalize iblk m c 4 t = l0
    generalize iblk m c 5 t = l1
    generalize iblk m c 6 t = l2
    generalize iblk m c 7 t = cv
    canon_tiles x h using View.cover_of_tiledBy _ ![512, 128] (by sl_kernel_rfl) y
    · refine Eq.trans ?_ (mixed_hi o0 o1 o2 l0 l1 l2 cv y (x 0) (x 1) h0 h1).symm
      unfold_payloads
      pointwise
    · refine Eq.trans ?_ (mixed_at o0 o1 o2 l0 l1 l2 cv y 2 3 (x 0) (x 1) h0 (h1.trans (show _ = 2 * 512 + 3 * 128 + (x 1).val from by omega))).symm
      unfold_payloads
      pointwise [share, pick]
    · refine Eq.trans ?_ (mixed_at o0 o1 o2 l0 l1 l2 cv y 1 3 (x 0) (x 1) h0 (h1.trans (show _ = 1 * 512 + 3 * 128 + (x 1).val from by omega))).symm
      unfold_payloads
      pointwise [share, pick]
    · refine Eq.trans ?_ (mixed_at o0 o1 o2 l0 l1 l2 cv y 0 3 (x 0) (x 1) h0 (h1.trans (show _ = 0 * 512 + 3 * 128 + (x 1).val from by omega))).symm
      unfold_payloads
      pointwise [share, pick]
    · refine Eq.trans ?_ (mixed_at o0 o1 o2 l0 l1 l2 cv y 2 2 (x 0) (x 1) h0 (h1.trans (show _ = 2 * 512 + 2 * 128 + (x 1).val from by omega))).symm
      unfold_payloads
      pointwise [share, pick]
    · refine Eq.trans ?_ (mixed_at o0 o1 o2 l0 l1 l2 cv y 1 2 (x 0) (x 1) h0 (h1.trans (show _ = 1 * 512 + 2 * 128 + (x 1).val from by omega))).symm
      unfold_payloads
      pointwise [share, pick]
    · refine Eq.trans ?_ (mixed_at o0 o1 o2 l0 l1 l2 cv y 0 2 (x 0) (x 1) h0 (h1.trans (show _ = 0 * 512 + 2 * 128 + (x 1).val from by omega))).symm
      unfold_payloads
      pointwise [share, pick]
    · refine Eq.trans ?_ (mixed_at o0 o1 o2 l0 l1 l2 cv y 2 1 (x 0) (x 1) h0 (h1.trans (show _ = 2 * 512 + 1 * 128 + (x 1).val from by omega))).symm
      unfold_payloads
      pointwise [share, pick]
    · refine Eq.trans ?_ (mixed_at o0 o1 o2 l0 l1 l2 cv y 1 1 (x 0) (x 1) h0 (h1.trans (show _ = 1 * 512 + 1 * 128 + (x 1).val from by omega))).symm
      unfold_payloads
      pointwise [share, pick]
    · refine Eq.trans ?_ (mixed_at o0 o1 o2 l0 l1 l2 cv y 0 1 (x 0) (x 1) h0 (h1.trans (show _ = 0 * 512 + 1 * 128 + (x 1).val from by omega))).symm
      unfold_payloads
      pointwise [share, pick]
    · refine Eq.trans ?_ (mixed_at o0 o1 o2 l0 l1 l2 cv y 2 0 (x 0) (x 1) h0 (h1.trans (show _ = 2 * 512 + 0 * 128 + (x 1).val from by omega))).symm
      unfold_payloads
      pointwise [share, pick]
    · refine Eq.trans ?_ (mixed_at o0 o1 o2 l0 l1 l2 cv y 1 0 (x 0) (x 1) h0 (h1.trans (show _ = 1 * 512 + 0 * 128 + (x 1).val from by omega))).symm
      unfold_payloads
      pointwise [share, pick]
    · refine Eq.trans ?_ (mixed_at o0 o1 o2 l0 l1 l2 cv y 0 0 (x 0) (x 1) h0 (h1.trans (show _ = 0 * 512 + 0 * 128 + (x 1).val from by omega))).symm
      unfold_payloads
      pointwise [share, pick]
  generalize mixed (iblk m c 1 t) (iblk m c 2 t) (iblk m c 3 t) (iblk m c 4 t) (iblk m c 5 t) (iblk m c 6 t) (iblk m c 7 t) = A
  unfold k0_pay56
  generalize k0_pay51 (F := Ideal) (iblk m c 0 t) A (iblk m c 8 t) = X
  generalize k0_pay54 (F := Ideal) X (k0_pay52 (F := Ideal) (iblk m c 9 t)) (k0_pay53 (F := Ideal) (iblk m c 0 t) A (iblk m c 8 t)) (iblk m c 10 t) = q
  rw [back1 (G := read q (iblk m c 11 t) (iblk m c 12 t) (iblk m c 13 t)) ?b]
  case b =>
    intro y
    generalize iblk m c 11 t = qn
    generalize iblk m c 12 t = k
    generalize iblk m c 13 t = v
    canon_tiles x h
    · refine Eq.trans ?_ (read_at q qn k v y 3 (x 0) (x 1) h0 (h1.trans (show _ = 3 * 128 + (x 1).val from by omega))).symm
      unfold_payloads
      pointwise [attDiv, scrExp, scrMax, scr, qhead, mhead, normedBy]
    · refine Eq.trans ?_ (read_at q qn k v y 2 (x 0) (x 1) h0 (h1.trans (show _ = 2 * 128 + (x 1).val from by omega))).symm
      unfold_payloads
      pointwise [attDiv, scrExp, scrMax, scr, qhead, mhead, normedBy]
    · refine Eq.trans ?_ (read_at q qn k v y 1 (x 0) (x 1) h0 (h1.trans (show _ = 1 * 128 + (x 1).val from by omega))).symm
      unfold_payloads
      pointwise [attDiv, scrExp, scrMax, scr, qhead, mhead, normedBy]
    · refine Eq.trans ?_ (read_at q qn k v y 0 (x 0) (x 1) h0 (h1.trans (show _ = 0 * 128 + (x 1).val from by omega))).symm
      unfold_payloads
      pointwise [attDiv, scrExp, scrMax, scr, qhead, mhead, normedBy]

end Cert.Kernel3Ideal.Hand
-- ==== Proof.Mix.Rows.lean ====
module

public import proofs.«01_k».proof.Proof.Mix.Block

@[expose] public section

set_option maxRecDepth 16384

noncomputable section

namespace Cert.Kernel3Ideal.Hand

open Idealize.ShloMosaic Idealize.ShloMosaic.TcCoe Idealize.SL.Sem
open Idealize.ShloMosaic.Pipeline (Dat)
open Cert.Kernel3Ideal Cert.Kernel3Ideal.Gen
open Cert.Soft

/-! ## One row of the layer's mix -/

/-- A row plus the product of another with a matrix. -/
def resid {a b : ℕ} (x : Fin b → EReal) (y : Fin a → EReal) (w : Fin a → Fin b → EReal) (c : Fin b) : EReal := x c + ∑ k : Fin a, y k * w k c

/-- The queries of a row: its norm times the query matrix. -/
def quer (x g : Fin 2048 → EReal) (w : Fin 2048 → Fin 512 → EReal) (c : Fin 512) : EReal :=
  ∑ d : Fin 2048, normedBy (Ideal.ofBits FTy.f32 0x45000000#32) x g d * w d c

/-- Head `h` of a row's queries, normed. -/
def qh (q : Fin 512 → EReal) (g : Fin 128 → EReal) (h : Fin 4) : Fin 128 → EReal :=
  normedBy (Ideal.ofBits FTy.f32 0x43000000#32) (fun e => q ⟨h.val * 128 + e.val, by omega⟩) g

/-- Head `h` of the memory's rows. -/
def mh (k : Fin 256 → Fin 512 → EReal) (h : Fin 4) (j : Fin 256) (e : Fin 128) : EReal := k j ⟨h.val * 128 + e.val, by omega⟩

/-- A row's reading of the memory. -/
def attRow (q : Fin 512 → EReal) (g : Fin 128 → EReal) (k v : Fin 256 → Fin 512 → EReal) (c : Fin 512) : EReal :=
  attDiv (qh q g ⟨c.val / 128, by omega⟩) (mh k ⟨c.val / 128, by omega⟩) (mh v ⟨c.val / 128, by omega⟩) ⟨c.val % 128, Nat.mod_lt _ (by decide)⟩

/-- A row of the result. -/
def outRow (x y : Fin 2048 → EReal) (w : Fin 2048 → Fin 2048 → EReal) (nw : Fin 2048 → EReal) (wq : Fin 2048 → Fin 512 → EReal) (qn : Fin 128 → EReal)
    (k v : Fin 256 → Fin 512 → EReal) (wo : Fin 512 → Fin 2048 → EReal) : Fin 2048 → EReal :=
  resid (resid x y w) (attRow (quer (resid x y w) nw wq) qn k v) wo

set_option maxHeartbeats 1600000 in
/-- What a point stores, row by row. -/
theorem point_row (x : FVec Ideal S512x2048 .f32) (A : FVec Ideal S512x2048 .bf16) (w : FVec Ideal S2048x2048 .bf16) (nw : FVec Ideal S1x2048 .f32) (wq : FVec Ideal S2048x512 .bf16)
    (qn : FVec Ideal S1x128 .f32) (k v : FVec Ideal S256x512 .f32) (wo : FVec Ideal S512x2048 .bf16) (r : Fin 512) (c : Fin 2048) :
    k0_pay1 (F := Ideal) (k0_pay51 (F := Ideal) x A w)
      (read (k0_pay54 (F := Ideal) (k0_pay51 (F := Ideal) x A w) (k0_pay52 (F := Ideal) nw) (k0_pay53 (F := Ideal) x A w) wq) qn k v) wo (ix2 r c)
      = outRow (fun c => x (ix2 r c)) (fun c => A (ix2 r c)) (fun k c => w (ix2 k c)) (fun c => nw (ix2 0 c)) (fun k c => wq (ix2 k c)) (fun e => qn (ix2 0 e))
        (fun j c => k (ix2 j c)) (fun j c => v (ix2 j c)) (fun k c => wo (ix2 k c)) c := by
  have hX : ∀ (r : Fin 512) (c : Fin 2048), k0_pay51 (F := Ideal) x A w (ix2 r c)
      = resid (fun c => x (ix2 r c)) (fun c => A (ix2 r c)) (fun k c => w (ix2 k c)) c := fun r c => by
    unfold_payloads
    pointwise [resid]
  have hq : ∀ (r c : Fin 512), k0_pay54 (F := Ideal) (k0_pay51 (F := Ideal) x A w) (k0_pay52 (F := Ideal) nw) (k0_pay53 (F := Ideal) x A w) wq (ix2 r c)
      = quer (resid (fun c => x (ix2 r c)) (fun c => A (ix2 r c)) (fun k c => w (ix2 k c))) (fun c => nw (ix2 0 c)) (fun k c => wq (ix2 k c)) c := fun r c => by
    unfold k0_pay53
    generalize k0_pay51 (F := Ideal) x A w = X at hX ⊢
    unfold_payloads
    pointwise [hX, quer, normedBy]
  generalize k0_pay54 (F := Ideal) (k0_pay51 (F := Ideal) x A w) (k0_pay52 (F := Ideal) nw) (k0_pay53 (F := Ideal) x A w) wq = q at hq ⊢
  generalize k0_pay51 (F := Ideal) x A w = X at hX ⊢
  have hR : ∀ (c : Fin 512), read q qn k v (ix2 r c)
      = attRow (quer (resid (fun c => x (ix2 r c)) (fun c => A (ix2 r c)) (fun k c => w (ix2 k c))) (fun c => nw (ix2 0 c)) (fun k c => wq (ix2 k c))) (fun e => qn (ix2 0 e))
        (fun j c => k (ix2 j c)) (fun j c => v (ix2 j c)) c := fun c => by
    show attDiv (normedBy _ (fun e => q (ix2 r ⟨c.val / 128 * 128 + e.val, _⟩)) _) _ _ _ = _
    simp only [hq]
    rfl
  generalize read q qn k v = O at hR ⊢
  unfold outRow
  unfold_payloads
  pointwise [hX, hR, resid]

end Cert.Kernel3Ideal.Hand
-- ==== Proof.Mix.Host.lean ====
module

public import proofs.«01_k».proof.Proof.Mix.Rows

@[expose] public section

set_option maxRecDepth 16384

noncomputable section

namespace Cert.Kernel3Ideal.Hand

open Idealize.ShloMosaic Idealize.ShloMosaic.TcCoe Idealize.SL.Sem
open Idealize.ShloMosaic.Pipeline (Dat)
open Cert.Kernel3Ideal Cert.Kernel3Ideal.Gen
open Cert.Soft

variable (m : (ℓ : Loc nD τ sig) → Buf (Elt Ideal) ℓ)

/-- A row of the mixed heads: lanes below 1536 are the three groups' outputs weighted by their shares, the others are the convolution's. -/
def mixRow (o0 o1 o2 : FVec Ideal S4x8192x128 .f32) (l0 l1 l2 : FVec Ideal S4x8192 .f32) (cv : FVec Ideal S8192x512 .f32) (n : Fin 8192) (k : Fin 2048) : EReal :=
  if hk : k.val < 1536 then
    share (l0 (ix2 ⟨k.val / 128 % 4, Nat.mod_lt _ (by decide)⟩ n)) (l1 (ix2 ⟨k.val / 128 % 4, Nat.mod_lt _ (by decide)⟩ n)) (l2 (ix2 ⟨k.val / 128 % 4, Nat.mod_lt _ (by decide)⟩ n)) ⟨k.val / 512, by omega⟩
      * pick ⟨k.val / 512, by omega⟩ (o0 (ix3 ⟨k.val / 128 % 4, Nat.mod_lt _ (by decide)⟩ n ⟨k.val % 128, Nat.mod_lt _ (by decide)⟩))
        (o1 (ix3 ⟨k.val / 128 % 4, Nat.mod_lt _ (by decide)⟩ n ⟨k.val % 128, Nat.mod_lt _ (by decide)⟩))
        (o2 (ix3 ⟨k.val / 128 % 4, Nat.mod_lt _ (by decide)⟩ n ⟨k.val % 128, Nat.mod_lt _ (by decide)⟩))
  else cv (ix2 n ⟨k.val - 1536, by omega⟩)

theorem idx : ∀ t : Fin cfg0.N, win0_0.index t = ![t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![t.val, 0] ∧ win0_8.index t = ![0, 0]
    ∧ win0_9.index t = ![0, 0] ∧ win0_10.index t = ![0, 0] ∧ win0_11.index t = ![0, 0] ∧ win0_12.index t = ![0, 0] ∧ win0_13.index t = ![0, 0] ∧ win0_14.index t = ![0, 0]
    ∧ win0_15.index t = ![t.val, 0] :=
  (by decide +kernel : ∀ t : Fin grid0.N, _)

theorem lt16 (t : Fin cfg0.N) : t.val < 16 := t.isLt

/-- The row of the arrays that row `r` of a point's block is. -/
def row (t : Fin cfg0.N) (r : Fin 512) : Fin 8192 := ⟨t.val * 512 + r.val, by have := lt16 t; omega⟩

theorem x_at (c : Dev nD) (t : Fin cfg0.N) (r : Fin 512) (d : Fin 2048) :
    (iblk m c 0 t : FVec Ideal S512x2048 .f32) (ix2 r d) = m ((c : Thread nD τ).loc main_arg0) (ix3 0 (row t r) d) := by
  unfold row
  blk_point [iblk, V, idx t]

theorem o0_at (c : Dev nD) (t : Fin cfg0.N) (h : Fin 4) (r : Fin 512) (d : Fin 128) :
    (iblk m c 1 t : FVec Ideal S4x512x128 .f32) (ix3 h r d) = m ((c : Thread nD τ).loc main_arg1) (ix3 h (row t r) d) := by
  unfold row
  blk_point [iblk, V, idx t]

theorem o1_at (c : Dev nD) (t : Fin cfg0.N) (h : Fin 4) (r : Fin 512) (d : Fin 128) :
    (iblk m c 2 t : FVec Ideal S4x512x128 .f32) (ix3 h r d) = m ((c : Thread nD τ).loc main_arg2) (ix3 h (row t r) d) := by
  unfold row
  blk_point [iblk, V, idx t]

theorem o2_at (c : Dev nD) (t : Fin cfg0.N) (h : Fin 4) (r : Fin 512) (d : Fin 128) :
    (iblk m c 3 t : FVec Ideal S4x512x128 .f32) (ix3 h r d) = m ((c : Thread nD τ).loc main_arg3) (ix3 h (row t r) d) := by
  unfold row
  blk_point [iblk, V, idx t]

theorem l0_at (c : Dev nD) (t : Fin cfg0.N) (h : Fin 4) (r : Fin 512) (d : Fin 128) :
    (iblk m c 4 t : FVec Ideal S4x512x128 .f32) (ix3 h r d) = m ((c : Thread nD τ).loc main_arg4) (ix2 h (row t r)) := by
  unfold row
  blk_point [iblk, V, idx t]

theorem l1_at (c : Dev nD) (t : Fin cfg0.N) (h : Fin 4) (r : Fin 512) (d : Fin 128) :
    (iblk m c 5 t : FVec Ideal S4x512x128 .f32) (ix3 h r d) = m ((c : Thread nD τ).loc main_arg5) (ix2 h (row t r)) := by
  unfold row
  blk_point [iblk, V, idx t]

theorem l2_at (c : Dev nD) (t : Fin cfg0.N) (h : Fin 4) (r : Fin 512) (d : Fin 128) :
    (iblk m c 6 t : FVec Ideal S4x512x128 .f32) (ix3 h r d) = m ((c : Thread nD τ).loc main_arg6) (ix2 h (row t r)) := by
  unfold row
  blk_point [iblk, V, idx t]

theorem cv_at (c : Dev nD) (t : Fin cfg0.N) (r : Fin 512) (d : Fin 512) :
    (iblk m c 7 t : FVec Ideal S512x512 .f32) (ix2 r d) = m ((c : Thread nD τ).loc main_arg7) (ix2 (row t r) d) := by
  unfold row
  blk_point [iblk, V, idx t]

theorem w_at (c : Dev nD) (t : Fin cfg0.N) (k d : Fin 2048) :
    (iblk m c 8 t : FVec Ideal S2048x2048 .bf16) (ix2 k d) = m ((c : Thread nD τ).loc main_arg8) (ix2 k d) := by
  blk_point [iblk, V, idx t]

theorem nw_at (c : Dev nD) (t : Fin cfg0.N) (d : Fin 2048) :
    (iblk m c 9 t : FVec Ideal S1x2048 .f32) (ix2 0 d) = m ((c : Thread nD τ).loc main_arg9) (ix1 d) := by
  blk_point [iblk, V, idx t]

theorem wq_at (c : Dev nD) (t : Fin cfg0.N) (k : Fin 2048) (d : Fin 512) :
    (iblk m c 10 t : FVec Ideal S2048x512 .bf16) (ix2 k d) = m ((c : Thread nD τ).loc main_arg10) (ix2 k d) := by
  blk_point [iblk, V, idx t]

theorem qn_at (c : Dev nD) (t : Fin cfg0.N) (d : Fin 128) :
    (iblk m c 11 t : FVec Ideal S1x128 .f32) (ix2 0 d) = m ((c : Thread nD τ).loc main_arg11) (ix1 d) := by
  blk_point [iblk, V, idx t]

theorem k_at (c : Dev nD) (t : Fin cfg0.N) (j : Fin 256) (d : Fin 512) :
    (iblk m c 12 t : FVec Ideal S256x512 .f32) (ix2 j d) = m ((c : Thread nD τ).loc main_arg12) (ix2 j d) := by
  blk_point [iblk, V, idx t]

theorem v_at (c : Dev nD) (t : Fin cfg0.N) (j : Fin 256) (d : Fin 512) :
    (iblk m c 13 t : FVec Ideal S256x512 .f32) (ix2 j d) = m ((c : Thread nD τ).loc main_arg13) (ix2 j d) := by
  blk_point [iblk, V, idx t]

theorem wo_at (c : Dev nD) (t : Fin cfg0.N) (k : Fin 512) (d : Fin 2048) :
    (iblk m c 14 t : FVec Ideal S512x2048 .bf16) (ix2 k d) = m ((c : Thread nD τ).loc main_arg14) (ix2 k d) := by
  blk_point [iblk, V, idx t]

theorem term_congr (g : Fin 3) {a b c p q s a' b' c' p' q' s' : EReal} (ha : a = a') (hb : b = b') (hc : c = c') (hp : p = p') (hq : q = q') (hs : s = s') :
    share a b c g * pick g p q s = share a' b' c' g * pick g p' q' s' := by
  rw [ha, hb, hc, hp, hq, hs]

/-- The mixed heads of a point are its rows of the mixed heads. -/
theorem mixed_row (c : Dev nD) (t : Fin cfg0.N) (r : Fin 512) (k : Fin 2048) :
    mixed (iblk m c 1 t) (iblk m c 2 t) (iblk m c 3 t) (iblk m c 4 t) (iblk m c 5 t) (iblk m c 6 t) (iblk m c 7 t) (ix2 r k)
      = mixRow (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (row t r) k := by
  unfold mixed mixRow
  by_cases hk : k.val < 1536
  · refine (dif_pos (show ((ix2 r k : S512x2048.Idx) 1).val < 1536 from hk)).trans (Eq.trans ?_ (dif_pos hk).symm)
    exact term_congr _ (l0_at m c t _ r _) (l1_at m c t _ r _) (l2_at m c t _ r _) (o0_at m c t _ r _) (o1_at m c t _ r _) (o2_at m c t _ r _)
  · refine (dif_neg (show ¬ ((ix2 r k : S512x2048.Idx) 1).val < 1536 from hk)).trans (Eq.trans ?_ (dif_neg hk).symm)
    exact cv_at m c t r _

/-- What a point stores is its rows of the layer's mix. -/
theorem out_row (c : Dev nD) (t : Fin cfg0.N) (r : Fin 512) (d : Fin 2048) : outsAt0 m c t (ix2 r d)
    = outRow (fun d => m ((c : Thread nD τ).loc main_arg0) (ix3 0 (row t r) d))
      (mixRow (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (row t r))
      (fun k d => m ((c : Thread nD τ).loc main_arg8) (ix2 k d)) (fun d => m ((c : Thread nD τ).loc main_arg9) (ix1 d)) (fun k d => m ((c : Thread nD τ).loc main_arg10) (ix2 k d))
      (fun e => m ((c : Thread nD τ).loc main_arg11) (ix1 e)) (fun j d => m ((c : Thread nD τ).loc main_arg12) (ix2 j d)) (fun j d => m ((c : Thread nD τ).loc main_arg13) (ix2 j d))
      (fun k d => m ((c : Thread nD τ).loc main_arg14) (ix2 k d)) d := by
  refine (out_pt m c t (ix2 r d)).trans ?_
  dsimp only
  refine (point_row _ _ _ _ _ _ _ _ _ r d).trans ?_
  have e0 := funext fun d => x_at m c t r d
  have e1 := funext fun k => mixed_row m c t r k
  have e8 := funext fun k => funext fun d => w_at m c t k d
  have e9 := funext fun d => nw_at m c t d
  have e10 := funext fun k => funext fun d => wq_at m c t k d
  have e11 := funext fun d => qn_at m c t d
  have e12 := funext fun k => funext fun d => k_at m c t k d
  have e13 := funext fun k => funext fun d => v_at m c t k d
  have e14 := funext fun k => funext fun d => wo_at m c t k d
  rw [e0, e1, e8, e9, e10, e11, e12, e13, e14]

end Cert.Kernel3Ideal.Hand
-- ==== Proof.Mix.RefShare.lean ====
module

public import proofs.«01_k».proof.Proof.Mix.Host
public import proofs.«01_k».proof.Proof.Gen.Reference3Ideal.Read

@[expose] public section

set_option maxRecDepth 16384

noncomputable section

namespace Cert.Kernel3Ideal.Hand

open Idealize.ShloMosaic Idealize.ShloMosaic.TcCoe Idealize.SL.Sem
open Idealize.ShloMosaic.Pipeline (Dat)
open Cert.Kernel3Ideal Cert.Kernel3Ideal.Gen
open Cert.Soft Cert.Reference3Ideal.Read

section Shares

variable (l0 l1 l2 : FVec Ideal S4x8192 .f32)

/-- The three groups' log-sum-exps, stacked. -/
theorem v15_at (g : Fin 3) (n : Fin 8192) (h : Fin 4) : val_main_v15 (F := Ideal) l0 l1 l2 (ix4 g 0 n h) = pick g (l0 (ix2 h n)) (l1 (ix2 h n)) (l2 (ix2 h n)) := by
  match g with
  | 0 => pointwise [val_main_v15, val_main_v12, val_main_v7, val_main_v6, pick]
  | 1 => pointwise [val_main_v15, val_main_v13, val_main_v9, val_main_v8, pick]
  | 2 => pointwise [val_main_v15, val_main_v14, val_main_v11, val_main_v10, pick]

/-- The largest of the three. -/
theorem v18_at (n : Fin 8192) (h : Fin 4) : val_main_v18 (F := Ideal) l0 l1 l2 (ix3 0 n h) = max (max (l0 (ix2 h n)) (l1 (ix2 h n))) (l2 (ix2 h n)) := by
  have hz := v15_at l0 l1 l2
  have e : val_main_v18 (F := Ideal) l0 l1 l2 (ix3 0 n h)
      = max (Ideal.ofBits FTy.f32 0xFF800000#32) (Finset.fold max (Ideal.ofBits FTy.f32 0xFF800000#32) (fun g : Fin 3 => pick g (l0 (ix2 h n)) (l1 (ix2 h n)) (l2 (ix2 h n))) Finset.univ) := by
    unfold val_main_v18 val_main_v16
    generalize val_main_v15 (F := Ideal) l0 l1 l2 = z at hz ⊢
    pointwise [val_main_v17, val_main_cst, val_main_cst_0, hz]
  rw [e, max3, ofBits_ninf]
  exact max_eq_right bot_le

/-- The weights before the division. -/
theorem v22_at (g : Fin 3) (n : Fin 8192) (h : Fin 4) : val_main_v22 (F := Ideal) l0 l1 l2 (ix4 g 0 n h)
    = Ideal.exp (pick g (l0 (ix2 h n)) (l1 (ix2 h n)) (l2 (ix2 h n)) - max (max (l0 (ix2 h n)) (l1 (ix2 h n))) (l2 (ix2 h n))) := by
  have hz := v15_at l0 l1 l2
  have hM := v18_at l0 l1 l2
  unfold val_main_v22 val_main_v21 val_main_v20 val_main_v19
  generalize val_main_v15 (F := Ideal) l0 l1 l2 = z at hz ⊢
  generalize val_main_v18 (F := Ideal) l0 l1 l2 = M at hM ⊢
  pointwise [hz, hM]

/-- The shares. -/
theorem v26_at (g : Fin 3) (n : Fin 8192) (h : Fin 4) : val_main_v26 (F := Ideal) l0 l1 l2 (ix4 g 0 n h)
    = share (l0 (ix2 h n)) (l1 (ix2 h n)) (l2 (ix2 h n)) g := by
  have hz := v22_at l0 l1 l2
  have e : val_main_v26 (F := Ideal) l0 l1 l2 (ix4 g 0 n h)
      = Ideal.div (val_main_v22 (F := Ideal) l0 l1 l2 (ix4 g 0 n h)) (∑ x : Fin 3, val_main_v22 (F := Ideal) l0 l1 l2 (ix4 x 0 n h)) := by
    unfold val_main_v26 val_main_v25 val_main_v24 val_main_v23
    generalize val_main_v22 (F := Ideal) l0 l1 l2 = z
    pointwise [val_main_cst_1]
  rw [e, Fin.sum_univ_three, hz, hz, hz, hz]
  rfl

end Shares

section Groups

variable (o0 o1 o2 : FVec Ideal S4x8192x128 .f32) (l0 l1 l2 : FVec Ideal S4x8192 .f32) (cv : FVec Ideal S8192x512 .f32)

theorem v35_at (n : Fin 8192) (h : Fin 4) (d : Fin 128) : val_main_v35 (F := Ideal) o0 l0 l1 l2 (ix4 0 n h d)
    = share (l0 (ix2 h n)) (l1 (ix2 h n)) (l2 (ix2 h n)) 0 * o0 (ix3 h n d) := by
  have hz := v26_at l0 l1 l2
  unfold val_main_v35 val_main_v34 val_main_v33 val_main_v28 val_main_v27
  generalize val_main_v26 (F := Ideal) l0 l1 l2 = z at hz ⊢
  pointwise [val_main_v1, val_main_v0, hz]

theorem v38_at (n : Fin 8192) (h : Fin 4) (d : Fin 128) : val_main_v38 (F := Ideal) o1 l0 l1 l2 (ix4 0 n h d)
    = share (l0 (ix2 h n)) (l1 (ix2 h n)) (l2 (ix2 h n)) 1 * o1 (ix3 h n d) := by
  have hz := v26_at l0 l1 l2
  unfold val_main_v38 val_main_v37 val_main_v36 val_main_v30 val_main_v29
  generalize val_main_v26 (F := Ideal) l0 l1 l2 = z at hz ⊢
  pointwise [val_main_v3, val_main_v2, hz]

theorem v41_at (n : Fin 8192) (h : Fin 4) (d : Fin 128) : val_main_v41 (F := Ideal) o2 l0 l1 l2 (ix4 0 n h d)
    = share (l0 (ix2 h n)) (l1 (ix2 h n)) (l2 (ix2 h n)) 2 * o2 (ix3 h n d) := by
  have hz := v26_at l0 l1 l2
  unfold val_main_v41 val_main_v40 val_main_v39 val_main_v32 val_main_v31
  generalize val_main_v26 (F := Ideal) l0 l1 l2 = z at hz ⊢
  pointwise [val_main_v5, val_main_v4, hz]

/-- The mixed heads' row. -/
theorem v45_at (n : Fin 8192) (k : Fin 2048) : val_main_v45 (F := Ideal) o0 o1 o2 l0 l1 l2 cv (ix3 0 n k) = mixRow o0 o1 o2 l0 l1 l2 cv n k := by
  have h0 := v35_at o0 l0 l1 l2
  have h1 := v38_at o1 l0 l1 l2
  have h2 := v41_at o2 l0 l1 l2
  unfold val_main_v45 val_main_v43 val_main_v42
  generalize val_main_v35 (F := Ideal) o0 l0 l1 l2 = z0 at h0 ⊢
  generalize val_main_v38 (F := Ideal) o1 l0 l1 l2 = z1 at h1 ⊢
  generalize val_main_v41 (F := Ideal) o2 l0 l1 l2 = z2 at h2 ⊢
  pointwise [val_main_v44, h0, h1, h2, mixRow]
  by_cases hk : k.val < 1536
  · rw [dif_pos hk, dif_pos hk]
    by_cases ha : k.val / 128 < 4
    · have e : (⟨k.val / 128 % 4, Nat.mod_lt _ (by decide)⟩ : Fin 4) = ⟨k.val / 128, ha⟩ := Fin.ext (show k.val / 128 % 4 = k.val / 128 from by omega)
      have g : (⟨k.val / 512, by omega⟩ : Fin 3) = 0 := Fin.ext (show k.val / 512 = 0 from by omega)
      rw [dif_pos ha, e, g]
      rfl
    · rw [dif_neg ha]
      by_cases hb : k.val / 128 - 4 < 4
      · have e : (⟨k.val / 128 % 4, Nat.mod_lt _ (by decide)⟩ : Fin 4) = ⟨k.val / 128 - 4, hb⟩ := Fin.ext (show k.val / 128 % 4 = k.val / 128 - 4 from by omega)
        have g : (⟨k.val / 512, by omega⟩ : Fin 3) = 1 := Fin.ext (show k.val / 512 = 1 from by omega)
        rw [dif_pos hb, e, g]
        rfl
      · have e : (⟨k.val / 128 % 4, Nat.mod_lt _ (by decide)⟩ : Fin 4) = ⟨k.val / 128 - 4 - 4, by omega⟩ := Fin.ext (show k.val / 128 % 4 = k.val / 128 - 4 - 4 from by omega)
        have g : (⟨k.val / 512, by omega⟩ : Fin 3) = 2 := Fin.ext (show k.val / 512 = 2 from by omega)
        rw [dif_neg hb, e, g]
        rfl
  · rw [dif_neg hk, dif_neg hk]

end Groups

end Cert.Kernel3Ideal.Hand
-- ==== Proof.Mix.RefRead.lean ====
module

public import proofs.«01_k».proof.Proof.Mix.RefShare

@[expose] public section

set_option maxRecDepth 16384

noncomputable section

namespace Cert.Kernel3Ideal.Hand

open Idealize.ShloMosaic Idealize.ShloMosaic.TcCoe Idealize.SL.Sem
open Idealize.ShloMosaic.Pipeline (Dat)
open Cert.Kernel3Ideal Cert.Kernel3Ideal.Gen
open Cert.Soft Cert.Reference3Ideal.Read

variable (x : FVec Ideal S1x8192x2048 .f32) (o0 o1 o2 : FVec Ideal S4x8192x128 .f32) (l0 l1 l2 : FVec Ideal S4x8192 .f32) (cv : FVec Ideal S8192x512 .f32)
  (w : FVec Ideal S2048x2048 .f32) (nw : FVec Ideal S2048 .f32) (wq : FVec Ideal S2048x512 .f32) (qn : FVec Ideal S128 .f32) (k v : FVec Ideal S256x512 .f32) (wo : FVec Ideal S512x2048 .f32)

/-- The row after the mix's projection. -/
abbrev xRow (n : Fin 8192) : Fin 2048 → EReal :=
  resid (fun c => x (ix3 0 n c)) (mixRow o0 o1 o2 l0 l1 l2 cv n) (fun j c => w (ix2 j c))

/-- Its queries. -/
abbrev qRow (n : Fin 8192) : Fin 512 → EReal :=
  quer (xRow x o0 o1 o2 l0 l1 l2 cv w n) (fun c => nw (ix1 c)) (fun j c => wq (ix2 j c))

/-- One head of them, normed. -/
abbrev hRow (n : Fin 8192) (h : Fin 4) : Fin 128 → EReal :=
  qh (qRow x o0 o1 o2 l0 l1 l2 cv w nw wq n) (fun e => qn (ix1 e)) h

theorem v47_at (n : Fin 8192) (c : Fin 2048) : val_main_v47 (F := Ideal) x o0 o1 o2 l0 l1 l2 cv w (ix3 0 n c) = xRow x o0 o1 o2 l0 l1 l2 cv w n c := by
  have hz := v45_at o0 o1 o2 l0 l1 l2 cv
  unfold val_main_v47 val_main_v46
  generalize val_main_v45 (F := Ideal) o0 o1 o2 l0 l1 l2 cv = z at hz ⊢
  pointwise [hz, resid]

set_option maxHeartbeats 1600000 in
theorem v63_at (n : Fin 8192) (c : Fin 512) : val_main_v63 (F := Ideal) x o0 o1 o2 l0 l1 l2 cv w nw wq (ix3 0 n c) = qRow x o0 o1 o2 l0 l1 l2 cv w nw wq n c := by
  have hz := v47_at x o0 o1 o2 l0 l1 l2 cv w
  unfold val_main_v63 val_main_v62 val_main_v59 val_main_v58 val_main_v57 val_main_v56 val_main_v54 val_main_v52 val_main_v51 val_main_v50 qRow
  generalize val_main_v47 (F := Ideal) x o0 o1 o2 l0 l1 l2 cv w = z at hz ⊢
  generalize xRow x o0 o1 o2 l0 l1 l2 cv w = X at hz ⊢
  pointwise [val_main_v61, val_main_v60, val_main_v55, val_main_v53, val_main_cst_2, val_main_cst_3, val_main_cst_4, hz, quer, normedBy]

set_option maxHeartbeats 1600000 in
theorem v77_at (n : Fin 8192) (h : Fin 4) (e : Fin 128) : val_main_v77 (F := Ideal) x o0 o1 o2 l0 l1 l2 cv w nw wq qn (ix4 0 n h e) = hRow x o0 o1 o2 l0 l1 l2 cv w nw wq qn n h e := by
  have hz := v63_at x o0 o1 o2 l0 l1 l2 cv w nw wq
  unfold val_main_v77 val_main_v74 val_main_v73 val_main_v72 val_main_v71 val_main_v69 val_main_v67 val_main_v66 val_main_v65 val_main_v64 hRow
  generalize val_main_v63 (F := Ideal) x o0 o1 o2 l0 l1 l2 cv w nw wq = z at hz ⊢
  generalize qRow x o0 o1 o2 l0 l1 l2 cv w nw wq = X at hz ⊢
  pointwise [val_main_v76, val_main_v75, val_main_v70, val_main_v68, val_main_cst_5, val_main_cst_6, val_main_cst_7, hz, qh, normedBy]

theorem v48_at (h : Fin 4) (j : Fin 256) (e : Fin 128) : val_main_v48 (F := Ideal) k (ix4 0 j h e) = mh (fun j c => k (ix2 j c)) h j e := by
  pointwise [val_main_v48, mh]

theorem v78_at (n : Fin 8192) (h : Fin 4) (j : Fin 256) : val_main_v78 (F := Ideal) x o0 o1 o2 l0 l1 l2 cv w nw wq qn k (ix4 0 h n j)
    = ∑ e : Fin 128, val_main_v77 (F := Ideal) x o0 o1 o2 l0 l1 l2 cv w nw wq qn (ix4 0 n h e) * val_main_v48 (F := Ideal) k (ix4 0 j h e) := by
  unfold val_main_v78
  generalize val_main_v77 (F := Ideal) x o0 o1 o2 l0 l1 l2 cv w nw wq qn = z
  generalize val_main_v48 (F := Ideal) k = y
  pointwise []

theorem v80_at (n : Fin 8192) (h : Fin 4) (j : Fin 256) : val_main_v80 (F := Ideal) x o0 o1 o2 l0 l1 l2 cv w nw wq qn k (ix4 0 h n j)
    = scr (hRow x o0 o1 o2 l0 l1 l2 cv w nw wq qn n h) (mh (fun j c => k (ix2 j c)) h) j := by
  have hz := v78_at x o0 o1 o2 l0 l1 l2 cv w nw wq qn k n h j
  have e : val_main_v80 (F := Ideal) x o0 o1 o2 l0 l1 l2 cv w nw wq qn k (ix4 0 h n j)
      = val_main_v78 (F := Ideal) x o0 o1 o2 l0 l1 l2 cv w nw wq qn k (ix4 0 h n j) * Ideal.ofBits FTy.f32 0x3DB504F3#32 := by
    unfold val_main_v80
    generalize val_main_v78 (F := Ideal) x o0 o1 o2 l0 l1 l2 cv w nw wq qn k = z
    pointwise [val_main_v79, val_main_cst_8]
  rw [e, hz]
  unfold scr
  refine congrArg (· * Ideal.ofBits FTy.f32 0x3DB504F3#32) (Finset.sum_congr rfl fun e _ => ?_)
  rw [v77_at, v48_at]

theorem v81_at (n : Fin 8192) (h : Fin 4) : val_main_v81 (F := Ideal) x o0 o1 o2 l0 l1 l2 cv w nw wq qn k (ix3 0 h n)
    = Finset.fold max (Ideal.ofBits FTy.f32 0xFF800000#32) (fun j : Fin 256 => val_main_v80 (F := Ideal) x o0 o1 o2 l0 l1 l2 cv w nw wq qn k (ix4 0 h n j)) Finset.univ := by
  unfold val_main_v81
  generalize val_main_v80 (F := Ideal) x o0 o1 o2 l0 l1 l2 cv w nw wq qn k = z
  pointwise [val_main_cst_9]

/-- The maximum starts at minus infinity. -/
theorem max_ninf (a : EReal) : max (Ideal.ofBits FTy.f32 0xFF800000#32) a = a := by
  rw [ofBits_ninf]
  exact max_eq_right bot_le

theorem v83_eq (n : Fin 8192) (h : Fin 4) : val_main_v83 (F := Ideal) x o0 o1 o2 l0 l1 l2 cv w nw wq qn k (ix3 0 h n)
    = max (Ideal.ofBits FTy.f32 0xFF800000#32) (val_main_v81 (F := Ideal) x o0 o1 o2 l0 l1 l2 cv w nw wq qn k (ix3 0 h n)) := by
  rw [val_main_v83_apply, val_main_v82_apply, val_main_cst_10_apply]
  generalize val_main_v81 (F := Ideal) x o0 o1 o2 l0 l1 l2 cv w nw wq qn k (ix3 0 h n) = z
  rfl

theorem v83_at (n : Fin 8192) (h : Fin 4) : val_main_v83 (F := Ideal) x o0 o1 o2 l0 l1 l2 cv w nw wq qn k (ix3 0 h n)
    = scrMax (hRow x o0 o1 o2 l0 l1 l2 cv w nw wq qn n h) (mh (fun j c => k (ix2 j c)) h) := by
  have hf : (fun j : Fin 256 => val_main_v80 (F := Ideal) x o0 o1 o2 l0 l1 l2 cv w nw wq qn k (ix4 0 h n j))
      = fun j => scr (hRow x o0 o1 o2 l0 l1 l2 cv w nw wq qn n h) (mh (fun j c => k (ix2 j c)) h) j :=
    funext fun j => v80_at x o0 o1 o2 l0 l1 l2 cv w nw wq qn k n h j
  refine (v83_eq x o0 o1 o2 l0 l1 l2 cv w nw wq qn k n h).trans ?_
  rw [v81_at, hf]
  exact max_ninf _

theorem v87_at (n : Fin 8192) (h : Fin 4) (j : Fin 256) : val_main_v87 (F := Ideal) x o0 o1 o2 l0 l1 l2 cv w nw wq qn k (ix4 0 h n j)
    = scrExp (hRow x o0 o1 o2 l0 l1 l2 cv w nw wq qn n h) (mh (fun j c => k (ix2 j c)) h) j := by
  have hz := v80_at x o0 o1 o2 l0 l1 l2 cv w nw wq qn k
  have hM := v83_at x o0 o1 o2 l0 l1 l2 cv w nw wq qn k
  unfold val_main_v87 val_main_v86 val_main_v85 val_main_v84
  generalize val_main_v80 (F := Ideal) x o0 o1 o2 l0 l1 l2 cv w nw wq qn k = z at hz ⊢
  generalize val_main_v83 (F := Ideal) x o0 o1 o2 l0 l1 l2 cv w nw wq qn k = M at hM ⊢
  generalize hRow x o0 o1 o2 l0 l1 l2 cv w nw wq qn = X at hz hM ⊢
  pointwise [hz, hM, scrExp]

theorem v91_at (n : Fin 8192) (h : Fin 4) (j : Fin 256) : val_main_v91 (F := Ideal) x o0 o1 o2 l0 l1 l2 cv w nw wq qn k (ix4 0 h n j)
    = Ideal.div (scrExp (hRow x o0 o1 o2 l0 l1 l2 cv w nw wq qn n h) (mh (fun j c => k (ix2 j c)) h) j)
      (∑ i : Fin 256, scrExp (hRow x o0 o1 o2 l0 l1 l2 cv w nw wq qn n h) (mh (fun j c => k (ix2 j c)) h) i) := by
  have hz := v87_at x o0 o1 o2 l0 l1 l2 cv w nw wq qn k
  unfold val_main_v91 val_main_v90 val_main_v89 val_main_v88
  generalize val_main_v87 (F := Ideal) x o0 o1 o2 l0 l1 l2 cv w nw wq qn k = z at hz ⊢
  generalize hRow x o0 o1 o2 l0 l1 l2 cv w nw wq qn = X at hz ⊢
  pointwise [val_main_cst_11, hz]

/-- A row's reading of the memory, the divided weights summed. -/
def sumRow (q : Fin 512 → EReal) (g : Fin 128 → EReal) (k v : Fin 256 → Fin 512 → EReal) (c : Fin 512) : EReal :=
  attSum (qh q g ⟨c.val / 128, by omega⟩) (mh k ⟨c.val / 128, by omega⟩) (mh v ⟨c.val / 128, by omega⟩) ⟨c.val % 128, Nat.mod_lt _ (by decide)⟩

theorem v92_at (n : Fin 8192) (h : Fin 4) (d : Fin 128) : val_main_v92 (F := Ideal) x o0 o1 o2 l0 l1 l2 cv w nw wq qn k v (ix4 0 h d n)
    = attSum (hRow x o0 o1 o2 l0 l1 l2 cv w nw wq qn n h) (mh (fun j c => k (ix2 j c)) h) (mh (fun j c => v (ix2 j c)) h) d := by
  have hz := v91_at x o0 o1 o2 l0 l1 l2 cv w nw wq qn k
  have e : val_main_v92 (F := Ideal) x o0 o1 o2 l0 l1 l2 cv w nw wq qn k v (ix4 0 h d n)
      = ∑ j : Fin 256, mh (fun j c => v (ix2 j c)) h j d * val_main_v91 (F := Ideal) x o0 o1 o2 l0 l1 l2 cv w nw wq qn k (ix4 0 h n j) := by
    unfold val_main_v92
    generalize val_main_v91 (F := Ideal) x o0 o1 o2 l0 l1 l2 cv w nw wq qn k = z
    pointwise [val_main_v49, mh]
  rw [e]
  unfold attSum
  exact Finset.sum_congr rfl fun j _ => by rw [hz, mul_comm]

/-- The reference's result, row by row. -/
theorem v97_at (n : Fin 8192) (c : Fin 2048) : val_main_v97 (F := Ideal) x o0 o1 o2 l0 l1 l2 cv w nw wq qn k v wo (ix2 n c)
    = resid (xRow x o0 o1 o2 l0 l1 l2 cv w n) (sumRow (qRow x o0 o1 o2 l0 l1 l2 cv w nw wq n) (fun e => qn (ix1 e)) (fun j c => k (ix2 j c)) (fun j c => v (ix2 j c)))
      (fun j c => wo (ix2 j c)) c := by
  have hX := v47_at x o0 o1 o2 l0 l1 l2 cv w
  have hz := v92_at x o0 o1 o2 l0 l1 l2 cv w nw wq qn k v
  unfold val_main_v97 val_main_v96 val_main_v95 val_main_v94 val_main_v93
  unfold hRow at hz
  generalize val_main_v92 (F := Ideal) x o0 o1 o2 l0 l1 l2 cv w nw wq qn k v = z at hz ⊢
  generalize val_main_v47 (F := Ideal) x o0 o1 o2 l0 l1 l2 cv w = y at hX ⊢
  generalize qRow x o0 o1 o2 l0 l1 l2 cv w nw wq = Q at hz ⊢
  generalize xRow x o0 o1 o2 l0 l1 l2 cv w = X at hX ⊢
  pointwise [hX, hz, resid, sumRow]

end Cert.Kernel3Ideal.Hand
-- ==== Proof.Mix.Final.lean ====
module

public import proofs.«01_k».proof.Proof.Mix.RefRead
public import proofs.«01_k».proof.Proof.Gen.Pre_finite_mix

@[expose] public section

set_option maxRecDepth 16384

noncomputable section

namespace Cert.Kernel3Ideal.Hand

open Idealize.ShloMosaic Idealize.ShloMosaic.TcCoe Idealize.SL.Sem
open Idealize.ShloMosaic.Pipeline (Dat)
open Cert.Kernel3Ideal Cert.Kernel3Ideal.Gen
open Cert.Soft

/-- Of real gains and keys, dividing the weighted sum is the same as summing the divided weights. -/
theorem attRow_eq (q : Fin 512 → EReal) {g : Fin 128 → EReal} {k : Fin 256 → Fin 512 → EReal} (v : Fin 256 → Fin 512 → EReal) (hg : ∀ c, Fin' (g c)) (hk : ∀ j c, Fin' (k j c)) :
    attRow q g k v = sumRow q g k v :=
  funext fun c => attDiv_eq (fun e => normedBy_fin c128 _ hg e) (fun j e => hk _ _) _

variable (m : (ℓ : Loc nD τ sig) → Buf (Elt Ideal) ℓ)

theorem real11 (h : Cert.Pre_Kernel3Ideal_finite_mix m) (c : Dev nD) (i : S128.Idx) : Fin' (m ((c : Thread nD τ).loc main_arg11) i) :=
  fin_of_abs_lt (congrFun (h c).1 i)

theorem real12 (h : Cert.Pre_Kernel3Ideal_finite_mix m) (c : Dev nD) (i : S256x512.Idx) : Fin' (m ((c : Thread nD τ).loc main_arg12) i) :=
  fin_of_abs_lt (congrFun (h c).2 i)

/-- Where a point's block lies in the output array. -/
theorem emb15 (t : Fin cfg0.N) (r : Fin 512) (d : Fin 2048) (G : FVec Ideal S8192x2048 .f32) :
    G ((win0_15.blk t).view.emb (ix2 r d)) = G (ix2 (row t r) d) := by
  unfold row
  blk_point [idx t]

/-- The output array after the run. -/
theorem final15 (h : Cert.Pre_Kernel3Ideal_finite_mix m) (c : Dev nD) : (dats m 0 c).arrAt 15 (cfgs 0).N
    = Cert.Reference3Ideal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t ht y => ?_
  blk_simp
  rw [after0_15]
  have hy : ∀ (r : Fin 512) (d : Fin 2048), outsAt0 m c t (ix2 r d)
      = Cert.Reference3Ideal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ((win0_15.blk t).view.emb (ix2 r d)) := fun r d => by
    refine (out_row m c t r d).trans (Eq.symm ?_)
    refine (emb15 t r d _).trans ?_
    refine (v97_at _ _ _ _ _ _ _ _ _ _ _ _ _ _ _ (row t r) d).trans ?_
    unfold outRow
    rw [attRow_eq _ _ (fun _ => real11 m h c _) (fun _ _ => real12 m h c _)]
  exact (congrArg _ (eq_ix2 y)).trans ((hy (y 0) (y 1)).trans (congrArg (fun i => Cert.Reference3Ideal.Read.val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ((win0_15.blk t).view.emb i)) (eq_ix2 y).symm))

/-- The mix of the head groups and the memory's reading: the kernel's array is the reference's. -/
theorem algebraic : Cert.algebraic_Kernel3Ideal_Reference3Ideal_pre_finite_mix := by
  intro m ρ m' ρ' hpre hagree
  refine ⟨_, (θ_run defs _ _).mono (fun r h c => ⟨(h c).1.trans (final15 m hpre c), (h c).2⟩) (Value.run_blocks m ρ), ?_⟩
  refine (θ_run Cert.Reference3Ideal.defs _ _).mono (fun r h c => ⟨(h c).1.trans ?_, (h c).2⟩) (Cert.Reference3Ideal.Value.run m' ρ')
  rw [← (hagree c).1, ← (hagree c).2.1, ← (hagree c).2.2.1, ← (hagree c).2.2.2.1, ← (hagree c).2.2.2.2.1, ← (hagree c).2.2.2.2.2.1, ← (hagree c).2.2.2.2.2.2.1, ← (hagree c).2.2.2.2.2.2.2.1, ← (hagree c).2.2.2.2.2.2.2.2.1, ← (hagree c).2.2.2.2.2.2.2.2.2.1, ← (hagree c).2.2.2.2.2.2.2.2.2.2.1, ← (hagree c).2.2.2.2.2.2.2.2.2.2.2.1, ← (hagree c).2.2.2.2.2.2.2.2.2.2.2.2.1, ← (hagree c).2.2.2.2.2.2.2.2.2.2.2.2.2.1, ← (hagree c).2.2.2.2.2.2.2.2.2.2.2.2.2.2]
  exact Cert.Reference3Ideal.Read.val_main_v97_eq ..

end Cert.Kernel3Ideal.Hand
-- ==== Proof.Proj.Kernel2Ideal.Conds.lean ====
/- The conditions of the projection kernel in closed form over the grid points, and its staging buffers by name. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The rows are normalized at the first column block of a row block. -/
theorem hcond1 : ∀ t : Fin cfg0.N, k0_cond1 (grid0.coords t) = 1#1 ↔ t.val % 9 = 0 :=
  (by decide +kernel : ∀ t : Fin grid0.N, k0_cond1 (grid0.coords t) = 1#1 ↔ t.val % 9 = 0)
/-- Column blocks 0 to 5 hold queries and keys. -/
theorem hcond2 : ∀ t : Fin cfg0.N, k0_cond2 (grid0.coords t) = 1#1 ↔ t.val % 9 < 6 :=
  (by decide +kernel : ∀ t : Fin grid0.N, k0_cond2 (grid0.coords t) = 1#1 ↔ t.val % 9 < 6)
/-- Column blocks 6 to 8 hold values. -/
theorem hcond3 : ∀ t : Fin cfg0.N, k0_cond3 (grid0.coords t) = 1#1 ↔ ¬t.val % 9 < 6 :=
  (by decide +kernel : ∀ t : Fin grid0.N, k0_cond3 (grid0.coords t) = 1#1 ↔ ¬t.val % 9 < 6)

/-- One staging buffer of each output, through which its contents are stated. -/
abbrev VO0_9 : View sig .tc .vmem S4x1024x128 .f32 := (Memref.whole cc0_stg9_0 : Memref sig .tc .vmem S4x1024x128 .f32).view
abbrev VO0_10 : View sig .tc .vmem S1024x512 .f32 := (Memref.whole cc0_stg10_0 : Memref sig .tc .vmem S1024x512 .f32).view

/-- Each window's staging buffer at a point, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x1024x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x512 .f32 := win0_10.stage (cfg0.slots t 10)
abbrev hs0_10 (t : Fin cfg0.N) : (ms0_10 t).IsWhole := hstage0_10 ((cfg0.slots t 10).cast nbuf0_10)

/-- The scratch that carries the normalized rows from one column block to the next. -/
abbrev scM0_0 : Memref sig .tc .vmem S1024x2048 .bf16 := Memref.whole cc0_scratch0
abbrev VS0_0 : View sig .tc .vmem S1024x2048 .bf16 := scM0_0.view

/-- What the launch hands the region, with the scratch owned at some contents. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

end Cert.Kernel2Ideal.Proj

end
-- ==== Proof.Proj.Kernel2Ideal.RunA.lean ====
/- The body of the projection kernel run once, on any whole staging buffers: the first column block. -/
module

public import proofs.«01_k».proof.Proof.Proj.Kernel2Ideal.Conds

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 4000000 in
/-- The body run at the first column block of a row block: the body normalizes the rows into the scratch, stores the gated convolution input and the four heads. What each stored buffer ends with, as pieces, is the witness. -/
def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) :
    Σ' (L9 : List (View.Piece (Elt F) S4x1024x128 .f32)), Σ' (L10 : List (View.Piece (Elt F) S1024x512 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_proj_eq_skeleton]; unfold cc0_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS0

end Cert.Kernel2Ideal.Proj

end
-- ==== Proof.Proj.Kernel2Ideal.RunB.lean ====
/- The body of the projection kernel run once, on any whole staging buffers: the query and key column blocks. -/
module

public import proofs.«01_k».proof.Proof.Proj.Kernel2Ideal.RunA

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 4000000 in
/-- The body run at a later column block of queries or keys: the body stores the four heads. What each stored buffer ends with, as pieces, is the witness. -/
def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : ¬k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (xs0 : Vec F S1024x2048 .bf16) :
    { L9 : List (View.Piece (Elt F) S4x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg13 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_proj_eq_skeleton]; unfold cc0_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; isplitr; · ipureintro; exact harg13.read_unread _
    iexact HS0

end Cert.Kernel2Ideal.Proj

end
-- ==== Proof.Proj.Kernel2Ideal.RunC.lean ====
/- The body of the projection kernel run once, on any whole staging buffers: the value column blocks. -/
module

public import proofs.«01_k».proof.Proof.Proj.Kernel2Ideal.RunB

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

set_option maxHeartbeats 4000000 in
/-- The body run at a column block of values: the body stores the four heads. What each stored buffer ends with, as pieces, is the witness. -/
def runC (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : ¬k0_cond1 i = 1#1) (hc2 : ¬k0_cond2 i = 1#1) (hc3 : k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (xs0 : Vec F S1024x2048 .bf16) :
    { L9 : List (View.Piece (Elt F) S4x1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ owns (c : Thread nD τ) arg13 fullShare xs0) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_proj_eq_skeleton]; unfold cc0_proj_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    iexists _; isplitr; · ipureintro; exact harg13.read_unread _
    iexact HS0

end Cert.Kernel2Ideal.Proj

end
-- ==== Proof.Proj.Kernel2Ideal.Frame.lean ====
/- The frame of the projection kernel. The scratch and the gated block are stored at the first column block of a row block and carried to
   the last, so the proof data state what each of the three buffers holds after every point. -/
module

public import proofs.«01_k».proof.Proof.Proj.Kernel2Ideal.RunC
public import Idealize.ShloMosaic.Lib.Claim
public import Idealize.ShloMosaic.Lib.Pipeline.TableIdle

@[expose] public section

set_option maxRecDepth 16384

noncomputable section

namespace Cert.Kernel2Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces tile their block. -/
theorem cover0_A_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (y : S4x1024x128.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).1 S1x1024x128.size (by sl_kernel_rfl) y

/-- What case A leaves in it. -/
def out0_A_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) : Vec F S4x1024x128 .f32 :=
  VO0_9.read (Elt F) (VO0_9.writes (Elt F) VO0_9.junk (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).1)

/-- Case A's pieces tile their block. -/
theorem cover0_A_10 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (y : S1024x512.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).2.1 S1024x512.size (by sl_kernel_rfl) y

/-- What case A leaves in it. -/
def out0_A_10 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) : Vec F S1024x512 .f32 :=
  VO0_10.read (Elt F) (VO0_10.writes (Elt F) VO0_10.junk (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).2.1)

/-- Case A's pieces tile their block. -/
theorem scover0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (y : S1024x2048.Idx) :
    ∃ pc ∈ (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).2.2.1 S1024x2048.size (by sl_kernel_rfl) y

/-- What case A leaves in it. -/
def sout0_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) : Vec F S1024x2048 .bf16 :=
  VS0_0.read (Elt F) (VS0_0.writes (Elt F) VS0_0.junk (runA c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8).2.2.1)

/-- Case B's pieces tile their block. -/
theorem cover0_B_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : ¬k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (xs0 : Vec F S1024x2048 .bf16) (y : S4x1024x128.Idx) :
    ∃ pc ∈ (runB c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8 xs0).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8 xs0).1 S1x1024x128.size (by sl_kernel_rfl) y

/-- What case B leaves in it. -/
def out0_B_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : ¬k0_cond1 i = 1#1) (hc2 : k0_cond2 i = 1#1) (hc3 : ¬k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (xs0 : Vec F S1024x2048 .bf16) : Vec F S4x1024x128 .f32 :=
  VO0_9.read (Elt F) (VO0_9.writes (Elt F) VO0_9.junk (runB c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8 xs0).1)

/-- Case C's pieces tile their block. -/
theorem cover0_C_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : ¬k0_cond1 i = 1#1) (hc2 : ¬k0_cond2 i = 1#1) (hc3 : k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (xs0 : Vec F S1024x2048 .bf16) (y : S4x1024x128.Idx) :
    ∃ pc ∈ (runC c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8 xs0).1, y ∈ pc.1.set :=
  View.cover_of_tiledL (runC c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8 xs0).1 S1x1024x128.size (by sl_kernel_rfl) y

/-- What case C leaves in it. -/
def out0_C_9 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x128 .f32) (harg10 : arg10.IsWhole) (arg11 : Memref sig .tc .vmem S4x1024x128 .f32) (harg11 : arg11.IsWhole) (arg12 : Memref sig .tc .vmem S1024x512 .f32) (harg12 : arg12.IsWhole) (arg13 : Memref sig .tc .vmem S1024x2048 .bf16) (harg13 : arg13.IsWhole) (hc1 : ¬k0_cond1 i = 1#1) (hc2 : ¬k0_cond2 i = 1#1) (hc3 : k0_cond3 i = 1#1)
    (x0 : Vec F S1024x2048 .f32) (x1 : Vec F S1x2048 .f32) (x2 : Vec F S2048x512 .bf16) (x3 : Vec F S2048x512 .bf16) (x4 : Vec F S2048x512 .bf16) (x5 : Vec F S1x128 .f32) (x6 : Vec F S1x128 .f32) (x7 : Vec F S1024x128 .f32) (x8 : Vec F S1024x128 .f32) (xs0 : Vec F S1024x2048 .bf16) : Vec F S4x1024x128 .f32 :=
  VO0_9.read (Elt F) (VO0_9.writes (Elt F) VO0_9.junk (runC c i arg2 harg2 arg3 harg3 arg4 harg4 arg5 harg5 arg6 harg6 arg7 harg7 arg8 harg8 arg9 harg9 arg10 harg10 arg11 harg11 arg12 harg12 arg13 harg13 hc1 hc2 hc3 x0 x1 x2 x3 x4 x5 x6 x7 x8 xs0).1)

/-! ## What the three buffers hold after each point -/

/-- The heads, the gated block and the normalized rows. -/
abbrev St (F : FTy → Type) [FloatOps F] : Type := Vec F S4x1024x128 .f32 × Vec F S1024x512 .f32 × Vec F S1024x2048 .bf16

def stA (c : Dev nD) (t : Fin cfg0.N) (h : t.val % 9 = 0) : St F :=
  (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond1 t).mpr h) ((hcond2 t).mpr (by omega)) (fun e => (hcond3 t).mp e (by omega)) (iblk m c 0 t) (iblk m c 1 t) (iblk m c 2 t) (iblk m c 3 t) (iblk m c 4 t) (iblk m c 5 t) (iblk m c 6 t) (iblk m c 7 t) (iblk m c 8 t),
   out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond1 t).mpr h) ((hcond2 t).mpr (by omega)) (fun e => (hcond3 t).mp e (by omega)) (iblk m c 0 t) (iblk m c 1 t) (iblk m c 2 t) (iblk m c 3 t) (iblk m c 4 t) (iblk m c 5 t) (iblk m c 6 t) (iblk m c 7 t) (iblk m c 8 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond1 t).mpr h) ((hcond2 t).mpr (by omega)) (fun e => (hcond3 t).mp e (by omega)) (iblk m c 0 t) (iblk m c 1 t) (iblk m c 2 t) (iblk m c 3 t) (iblk m c 4 t) (iblk m c 5 t) (iblk m c 6 t) (iblk m c 7 t) (iblk m c 8 t))

def stB (c : Dev nD) (t : Fin cfg0.N) (h : ¬t.val % 9 = 0) (h6 : t.val % 9 < 6) (p : St F) : St F :=
  (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun e => h ((hcond1 t).mp e)) ((hcond2 t).mpr h6) (fun e => (hcond3 t).mp e h6) (iblk m c 0 t) (iblk m c 1 t) (iblk m c 2 t) (iblk m c 3 t) (iblk m c 4 t) (iblk m c 5 t) (iblk m c 6 t) (iblk m c 7 t) (iblk m c 8 t) p.2.2, p.2.1, p.2.2)

def stC (c : Dev nD) (t : Fin cfg0.N) (h : ¬t.val % 9 = 0) (h6 : ¬t.val % 9 < 6) (p : St F) : St F :=
  (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun e => h ((hcond1 t).mp e)) (fun e => h6 ((hcond2 t).mp e)) ((hcond3 t).mpr h6) (iblk m c 0 t) (iblk m c 1 t) (iblk m c 2 t) (iblk m c 3 t) (iblk m c 4 t) (iblk m c 5 t) (iblk m c 6 t) (iblk m c 7 t) (iblk m c 8 t) p.2.2, p.2.1, p.2.2)

/-- What they hold after point `n`: the heads are the point's own, the other two are the row block's. -/
def outsAt0 (c : Dev nD) : (n : ℕ) → n < cfg0.N → St F
  | 0, hn => stA m c ⟨0, hn⟩ (Nat.zero_mod _)
  | n + 1, hn =>
    if h : (n + 1) % 9 = 0 then stA m c ⟨n + 1, hn⟩ h
    else if h6 : (n + 1) % 9 < 6 then stB m c ⟨n + 1, hn⟩ h h6 (outsAt0 c n (Nat.lt_of_succ_lt hn))
    else stC m c ⟨n + 1, hn⟩ h h6 (outsAt0 c n (Nat.lt_of_succ_lt hn))

theorem outsAt0_A (c : Dev nD) (t : Fin cfg0.N) (h : t.val % 9 = 0) : outsAt0 m c t.val t.isLt = stA m c t h := by
  obtain ⟨n, hn⟩ := t
  cases n with
  | zero => rfl
  | succ n => exact dif_pos h

theorem outsAt0_B (c : Dev nD) (t : Fin cfg0.N) (h : ¬t.val % 9 = 0) (h6 : t.val % 9 < 6) :
    outsAt0 m c t.val t.isLt = stB m c t h h6 (outsAt0 m c (t.val - 1) (Nat.lt_of_le_of_lt (Nat.sub_le _ _) t.isLt)) := by
  obtain ⟨n, hn⟩ := t
  cases n with
  | zero => exact absurd (Nat.zero_mod _) h
  | succ n => exact (dif_neg h).trans (dif_pos h6)

theorem outsAt0_C (c : Dev nD) (t : Fin cfg0.N) (h : ¬t.val % 9 = 0) (h6 : ¬t.val % 9 < 6) :
    outsAt0 m c t.val t.isLt = stC m c t h h6 (outsAt0 m c (t.val - 1) (Nat.lt_of_le_of_lt (Nat.sub_le _ _) t.isLt)) := by
  obtain ⟨n, hn⟩ := t
  cases n with
  | zero => exact absurd (Nat.zero_mod _) h
  | succ n => exact (dif_neg h).trans (dif_neg h6)

theorem stB_snd (c : Dev nD) (t : Fin cfg0.N) (h : ¬t.val % 9 = 0) (h6 : t.val % 9 < 6) (p : St F) : (stB m c t h h6 p).2 = p.2 := by
  unfold stB; rfl
theorem stC_snd (c : Dev nD) (t : Fin cfg0.N) (h : ¬t.val % 9 = 0) (h6 : ¬t.val % 9 < 6) (p : St F) : (stC m c t h h6 p).2 = p.2 := by
  unfold stC; rfl

/-- The gated block and the rows after a point that stores neither are what the point before left. -/
theorem outsAt0_keep (c : Dev nD) (t : Fin cfg0.N) (h : ¬t.val % 9 = 0) :
    (outsAt0 m c t.val t.isLt).2 = (outsAt0 m c (t.val - 1) (Nat.lt_of_le_of_lt (Nat.sub_le _ _) t.isLt)).2 := by
  by_cases h6 : t.val % 9 < 6
  · rw [outsAt0_B m c t h h6, stB_snd]
  · rw [outsAt0_C m c t h h6, stC_snd]

/-- The invariant before position `n`: at first the scratch at anything, afterwards at what the point before left. -/
def PhiS (c : Dev nD) : (n : ℕ) → n ≤ cfg0.N → sProp 𝕄
  | 0, _ => Pipeline.ΦA spec0 c
  | n + 1, hn => iprop(owns (c : Thread nD τ) scM0_0 fullShare ((outsAt0 m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM0_0 fullShare ((outsAt0 m c n hn).2.2) ∗ (∃ r, prngReg c r)) := rfl

theorem PhiS_pos (c : Dev nD) (n : ℕ) (h : n ≤ cfg0.N) (hz : n ≠ 0) :
    PhiS m c n h = iprop(owns (c : Thread nD τ) scM0_0 fullShare ((outsAt0 m c (n - 1) (by omega)).2.2) ∗ (∃ r, prngReg c r)) := by
  cases n with
  | zero => exact absurd rfl hz
  | succ n => rfl

/-- The invariant gives the scratch at anything back. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨HS0, Hg⟩
    isplitl [HS0]; · iexists _; iexact HS0
    iexact Hg

/-! ## The proof data -/

/-- The arrays as the region finds them; after a point each input's buffer at its block and the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## When the outputs are idle -/

/-- Every point stores the heads. -/
theorem live9 : ∀ t : Fin cfg0.N, cfg0.idle 9 (cfg0.grid.coords t) = false :=
  (by decide +kernel : ∀ t : Fin grid0.N, idle0 9 (grid0.coords t) = false)
/-- The gated block is stored at the first column block only. -/
theorem idle10 : ∀ t : Fin cfg0.N, cfg0.idle 10 (cfg0.grid.coords t) = !decide (t.val % 9 = 0) :=
  (by decide +kernel : ∀ t : Fin grid0.N, idle0 10 (grid0.coords t) = !decide (t.val % 9 = 0))
/-- Its buffer is fresh before the first column block of a row block, and there only. -/
theorem fresh10 (t : Fin cfg0.N) : cfg0.fresh 10 t.val = decide (t.val % 9 = 0) :=
  Pipeline.Cfg.fresh_tab cfg0 10 (fun n => decide (n % 9 = 0)) rfl
    (fun t => by
      show decide ((t.val + 1) % 9 = 0) = (_ || (_ && decide (t.val % 9 = 0)))
      rw [idle10 t]
      have hf := flush0_10 t
      by_cases h8 : t.val % 9 = 8
      · rw [hf.mpr h8, Bool.true_or]; exact decide_eq_true (by omega)
      · rw [Bool.eq_false_iff.mpr fun e => h8 (hf.mp e), Bool.false_or]
        by_cases h0 : t.val % 9 = 0
        · rw [decide_eq_true h0]; exact decide_eq_false (by omega)
        · rw [decide_eq_false h0, Bool.and_false]; exact decide_eq_false (by omega)) t.val (Nat.le_of_lt t.isLt)

/-- At a point that does not store it, the gated block is what the point before left. -/
theorem before0_10 (c : Dev nD) (t : Fin cfg0.N) (h : ¬t.val % 9 = 0) (d) :
    (dats m 0 c).before 10 t d = (outsAt0 m c t.val t.isLt).2.1 := by
  rw [Dat.before_out_traj (dats m 0 c) 10 rfl (fun _ _ => rfl) (fun t ht hi hf => ?_) t.val t rfl d, fresh10 t,
    decide_eq_false h, if_neg Bool.false_ne_true, after0_10, outsAt0_keep m c t h]
  rw [after0_10, after0_10]
  rw [fresh10 t] at hf
  rw [outsAt0_keep m c t (of_decide_eq_false hf)]

/-! ## The body obligation -/

def bodyPre (Φ : sProp 𝕄) (c : Dev nD) (t : Fin cfg0.N) : sProp 𝕄 :=
  iprop(Φ ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((outsAt0 m c t.val t.isLt).2.1))

/-- The gated block at its contents is what a point leaves, whether it stores it or not. -/
theorem leaves10 (c : Dev nD) (t : Fin cfg0.N) :
    owns (c : Thread nD τ) (ms0_10 t) fullShare ((outsAt0 m c t.val t.isLt).2.1) ⊢ ((dats m 0 c).leavesExact 10 t : sProp 𝕄) := by
  rw [← after0_10]
  by_cases h : t.val % 9 = 0
  · rw [show (dats m 0 c).leavesExact 10 t = owns (c : Thread nD τ) (ms0_10 t) fullShare ((dats m 0 c).after 10 t) from by
      unfold Dat.leavesExact; rw [(idle10 t).trans (by rw [decide_eq_true h]; rfl : _ = false)]]
  · have hi : cfg0.idle 10 (cfg0.grid.coords t) = true := (idle10 t).trans (by rw [decide_eq_false h]; rfl)
    by_cases h8 : t.val % 9 = 8
    · rw [show (dats m 0 c).leavesExact 10 t = owns (c : Thread nD τ) (ms0_10 t) fullShare ((dats m 0 c).after 10 t) from by
        unfold Dat.leavesExact; rw [hi, (flush0_10 t).mpr h8]]
    · rw [Dat.leavesExact_idle (dats m 0 c) 10 t hi (Bool.eq_false_iff.mpr fun e => h8 ((flush0_10 t).mp e))]
      simp only [before0_10 m c t h]
      rw [after0_10]
      iintro H
      iexists VO0_10.read (Elt F) VO0_10.junk
      iexact H

theorem leaves9 (c : Dev nD) (t : Fin cfg0.N) :
    owns (c : Thread nD τ) (ms0_9 t) fullShare ((dats m 0 c).after 9 t) ⊢ ((dats m 0 c).leavesExact 9 t : sProp 𝕄) := by
  unfold Dat.leavesExact
  rw [live9 t]

/-- The same, as the obligation spells it. -/
def bodyLeft (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (dats m 0 c).leavesExact 9 t ∗ (dats m 0 c).leavesExact 10 t)

theorem bodyPost_left (c : Dev nD) (t : Fin cfg0.N) : bodyPost m c t ⊢ bodyLeft m c t := by
  unfold bodyPost bodyLeft
  generalize ((dats m 0 c).Φ t.succ : sProp 𝕄) = P
  generalize ((dats m 0 c).owesAt () t.succ : sProp 𝕄) = Q
  generalize (owns (c : Thread nD τ) (ms0_0 t) fullShare ((dats m 0 c).after 0 t) : sProp 𝕄) = W0
  generalize (owns (c : Thread nD τ) (ms0_1 t) fullShare ((dats m 0 c).after 1 t) : sProp 𝕄) = W1
  generalize (owns (c : Thread nD τ) (ms0_2 t) fullShare ((dats m 0 c).after 2 t) : sProp 𝕄) = W2
  generalize (owns (c : Thread nD τ) (ms0_3 t) fullShare ((dats m 0 c).after 3 t) : sProp 𝕄) = W3
  generalize (owns (c : Thread nD τ) (ms0_4 t) fullShare ((dats m 0 c).after 4 t) : sProp 𝕄) = W4
  generalize (owns (c : Thread nD τ) (ms0_5 t) fullShare ((dats m 0 c).after 5 t) : sProp 𝕄) = W5
  generalize (owns (c : Thread nD τ) (ms0_6 t) fullShare ((dats m 0 c).after 6 t) : sProp 𝕄) = W6
  generalize (owns (c : Thread nD τ) (ms0_7 t) fullShare ((dats m 0 c).after 7 t) : sProp 𝕄) = W7
  generalize (owns (c : Thread nD τ) (ms0_8 t) fullShare ((dats m 0 c).after 8 t) : sProp 𝕄) = W8
  have h9 := leaves9 m c t
  have h10 := leaves10 m c t
  revert h9 h10
  generalize (owns (c : Thread nD τ) (ms0_9 t) fullShare ((dats m 0 c).after 9 t) : sProp 𝕄) = W9
  generalize (owns (c : Thread nD τ) (ms0_10 t) fullShare ((outsAt0 m c t.val t.isLt).2.1) : sProp 𝕄) = W10
  generalize ((dats m 0 c).leavesExact 9 t : sProp 𝕄) = L9
  generalize ((dats m 0 c).leavesExact 10 t : sProp 𝕄) = L10
  intro h9 h10
  exact Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono (Idealize.SL.BI.Entails.refl _) (Idealize.SL.BI.sep_mono h9 h10)))))))))))

set_option maxHeartbeats 3200000 in
theorem sound_A (c : Dev nD) (t : Fin cfg0.N) (h : t.val % 9 = 0) :
    bodyPre m (Pipeline.ΦA spec0 c) c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  rw [PhiA0_eq]
  rw [outsAt0_A m c t h]
  unfold stA out0_A_9 out0_A_10 sout0_A_0; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) _ _ _ _ _ _ _ _ _ _ _ _ _ _ _ _ _ _ _ _ _ _ _ _ ((hcond1 t).mpr h) ((hcond2 t).mpr (by omega)) (fun e => (hcond3 t).mp e (by omega)) (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  iintro ⟨H0, H1, H2, H3, H4, H5, H6, H7, H8, ⟨%e9, H9⟩, ⟨%e10, H10⟩, ⟨%es0, HS0⟩⟩
  isplitl [HS0 Hg]
  · isplitl [HS0]
    · unfold owns; iexists _; isplitr
      swap; · iexact HS0
      ipureintro; exact View.read_writes_of_cover _ _ _ _ _ (scover0_A_0 _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_A_9 _ _ _ _ _ _ _ _ _ _ _ _ _ _ _ _ _ _ _ _ _ _ _ _ _ _ _ _ _ _ _ _ _ _ _ _ _ _)
  unfold owns; iexists _; isplitr
  swap; · iexact H10
  ipureintro; exact View.read_writes_of_cover _ _ _ _ _ (cover0_A_10 _ _ _ _ _ _ _ _ _ _ _ _ _ _ _ _ _ _ _ _ _ _ _ _ _ _ _ _ _ _ _ _ _ _ _ _ _ _)

set_option maxHeartbeats 3200000 in
theorem sound_B (c : Dev nD) (t : Fin cfg0.N) (h : ¬t.val % 9 = 0) (h6 : t.val % 9 < 6) :
    bodyPre m (PhiS m c t.val (Nat.le_of_lt t.isLt)) c t ⊢ wp frame (wpE (defs₀ (F := F)) Variants.none c none) Set.univ (bodyAt0 t) (fun _ => bodyPost m c t) := by
  rw [PhiS_pos m c _ _ (fun e => h (by rw [e]))]
  unfold bodyPre bodyPost bodyAt0
  simp only [before0_0, before0_1, before0_2, before0_3, before0_4, before0_5, before0_6, before0_7, before0_8, before0_10 m c t h]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  rw [show (outsAt0 m c t.val t.isLt).2 = _ from outsAt0_keep m c t h]
  rw [outsAt0_B m c t h h6]
  unfold stB out0_B_9; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) _ _ _ _ _ _ _ _ _ _ _ _ _ _ _ _ _ _ _ _ _ _ _ _ (fun e => h ((hcond1 t).mp e)) ((hcond2 t).mpr h6) (fun e => (hcond3 t).mp e h6) (iblk m c 0 t) (iblk m c 1 t) (iblk m c 2 t) (iblk m c 3 t) (iblk m c 4 t) (iblk m c 5 t) (iblk m c 6 t) (iblk m c 7 t) (iblk m c 8 t) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_B_9 _ _ _ _ _ _ _ _ _ _ _ _ _ _ _ _ _ _ _ _ _ _ _ _ _ _ _ _ _ _ _ _ _ _ _ _ _ _ _)
  iexact H10

set_option maxHeartbeats 3200000 in
theorem sound_C (c : Dev nD) (t : Fin cfg0.N) (h : ¬t.val % 9 = 0) (h6 : ¬t.val % 9 < 6) :
    bodyPre m (PhiS m c t.val (Nat.le_of_lt t.isLt)) c t ⊢ wp frame (wpE (defs₀ (F := F)) Variants.none c none) Set.univ (bodyAt0 t) (fun _ => bodyPost m c t) := by
  rw [PhiS_pos m c _ _ (fun e => h (by rw [e]))]
  unfold bodyPre bodyPost bodyAt0
  simp only [before0_0, before0_1, before0_2, before0_3, before0_4, before0_5, before0_6, before0_7, before0_8, before0_10 m c t h]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  rw [show (outsAt0 m c t.val t.isLt).2 = _ from outsAt0_keep m c t h]
  rw [outsAt0_C m c t h h6]
  unfold stC out0_C_9; dsimp only
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runC c (grid0.coords t) _ _ _ _ _ _ _ _ _ _ _ _ _ _ _ _ _ _ _ _ _ _ _ _ (fun e => h ((hcond1 t).mp e)) (fun e => h6 ((hcond2 t).mp e)) ((hcond3 t).mpr h6) (iblk m c 0 t) (iblk m c 1 t) (iblk m c 2 t) (iblk m c 3 t) (iblk m c 4 t) (iblk m c 5 t) (iblk m c 6 t) (iblk m c 7 t) (iblk m c 8 t) _).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (cover0_C_9 _ _ _ _ _ _ _ _ _ _ _ _ _ _ _ _ _ _ _ _ _ _ _ _ _ _ _ _ _ _ _ _ _ _ _ _ _ _ _)
  iexact H10

theorem sound_body (c : Dev nD) (t : Fin cfg0.N) :
    bodyPre m ((dats m 0 c).Φ t.castSucc) c t ⊢ wp frame (wpE (defs₀ (F := F)) Variants.none c none) Set.univ (bodyAt0 t) (fun _ => bodyPost m c t) := by
  rw [PhiS_castSucc m c t]
  by_cases h : t.val % 9 = 0
  · exact triple_restated (sound_A m c t h) rfl (sep_mono (PhiS_any m c _ _) .rfl) fun _ => .rfl
  · by_cases h6 : t.val % 9 < 6
    · exact sound_B m c t h h6
    · exact sound_C m c t h h6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (triple_restated (sound_body m c t) rfl .rfl fun _ => bodyPost_left m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  PhiS_any m c (Fin.last cfg0.N).val (Nat.le_of_lt_succ (Fin.last cfg0.N).isLt)

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Proj

end
-- ==== Proof.Proj.Value.Block.lean ====
module

public import proofs.«01_k».proof.Defs
public import proofs.«01_k».proof.Proof.Proj.Kernel2Ideal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen Cert.Kernel2Ideal.Proj

variable (m : (ℓ : Loc nD τ sig) → Buf (Elt Ideal) ℓ)

/-! ## A block's heads, row by row -/

/-- Head `h` of row `r` of a block of four heads. -/
def headOf (z : FVec Ideal S1024x512 .f32) (h : Fin 4) (r : Fin 1024) (d : Fin 128) : EReal :=
  z (ix2 r ⟨h.val * 128 + d.val, by omega⟩)

/-- A head of 128 lanes over its root mean square, times the gain. -/
def normed (y g : Fin 128 → EReal) (d : Fin 128) : EReal :=
  y d * Ideal.rsqrt (Ideal.div (∑ e : Fin 128, y e * y e) (Scalar.ofBits (F := Ideal) .f32 0x43000000#32) + Scalar.ofBits (F := Ideal) .f32 0x358637BD#32) * g d

/-- The other half's lane. -/
def other (d : Fin 128) : Fin 128 := ⟨(d.val + 128 - 64) % 128, Nat.mod_lt _ (by decide)⟩

/-- The rotation as the kernel has it: the head times the cosines plus its halves exchanged times the signed sines. -/
def turned (y cs sn : Fin 128 → EReal) (d : Fin 128) : EReal := y d * cs d + y (other d) * sn d

/-- A row of a table. -/
def rowOf (T : FVec Ideal S1024x128 .f32) (r : Fin 1024) (d : Fin 128) : EReal := T (ix2 r d)

/-- The gain's lanes. -/
def laneOf (g : FVec Ideal S1x128 .f32) (d : Fin 128) : EReal := g (ix2 0 d)

/-- The first stored head. -/
theorem head0_at (a : BitVec 32) (z : FVec Ideal S1024x512 .f32) (q k : Vec Ideal S1x128 .f32) (cs sn : Vec Ideal S1024x128 .f32) (r : Fin 1024) (d : Fin 128) :
    k0_pay12 (F := Ideal) a z q k cs sn (ix3 0 r d) = turned (normed (headOf z 0 r) (laneOf (k0_pay9 a q k))) (rowOf cs r) (rowOf sn r) d := by
  unfold k0_pay12
  generalize k0_pay9 (F := Ideal) a q k = g
  unfold_payloads
  pointwise [turned, normed, headOf, rowOf, laneOf, other]

theorem head1_at (z : FVec Ideal S1024x512 .f32) (g : FVec Ideal S1x128 .f32) (cs sn : FVec Ideal S1024x128 .f32) (r : Fin 1024) (d : Fin 128) :
    k0_pay15 (F := Ideal) g (k0_pay10 cs) (k0_pay11 sn) (k0_pay13 z) (k0_pay14 z) (ix3 0 r d) = turned (normed (headOf z 1 r) (laneOf g)) (rowOf cs r) (rowOf sn r) d := by
  unfold_payloads
  pointwise [turned, normed, headOf, rowOf, laneOf, other]

theorem head2_at (z : FVec Ideal S1024x512 .f32) (g : FVec Ideal S1x128 .f32) (cs sn : FVec Ideal S1024x128 .f32) (r : Fin 1024) (d : Fin 128) :
    k0_pay16 (F := Ideal) z g (k0_pay10 cs) (k0_pay11 sn) (ix3 0 r d) = turned (normed (headOf z 2 r) (laneOf g)) (rowOf cs r) (rowOf sn r) d := by
  unfold_payloads
  pointwise [turned, normed, headOf, rowOf, laneOf, other]

theorem head3_at (z : FVec Ideal S1024x512 .f32) (g : FVec Ideal S1x128 .f32) (cs sn : FVec Ideal S1024x128 .f32) (r : Fin 1024) (d : Fin 128) :
    k0_pay4 (F := Ideal) (k0_pay11 sn) (k0_pay17 z g) (k0_pay18 z g (k0_pay10 cs)) (ix3 0 r d) = turned (normed (headOf z 3 r) (laneOf g)) (rowOf cs r) (rowOf sn r) d := by
  unfold_payloads
  pointwise [turned, normed, headOf, rowOf, laneOf, other]
/-- A tile's position, from its two running coordinates. -/
theorem tile_ix (x : S1x1024x128.Idx) (r : Fin 1024) (d : Fin 128) (h1 : r.val = (x 1).val) (h2 : d.val = (x 2).val) : x = ix3 0 r d := by
  funext k
  match k with
  | ⟨0, _⟩ => exact Subsingleton.elim (α := Fin 1) _ _
  | ⟨1, _⟩ => exact Fin.ext h1.symm
  | ⟨2, _⟩ => exact Fin.ext h2.symm

theorem slice0_at (p : Vec Ideal S1024x2048 .bf16) (w : Vec Ideal S2048x512 .bf16) (r : Fin 1024) (d : Fin 128) :
    k0_pay5 (F := Ideal) p w (ix3 0 r d) = headOf (k0_pay3 p w) 0 r d := by
  unfold k0_pay5; generalize k0_pay3 (F := Ideal) p w = z; pointwise [headOf]

theorem slice1_at (p : Vec Ideal S1024x2048 .bf16) (w : Vec Ideal S2048x512 .bf16) (r : Fin 1024) (d : Fin 128) :
    k0_pay6 (F := Ideal) p w (ix3 0 r d) = headOf (k0_pay3 p w) 1 r d := by
  unfold k0_pay6; generalize k0_pay3 (F := Ideal) p w = z; pointwise [headOf]

theorem slice2_at (p : Vec Ideal S1024x2048 .bf16) (w : Vec Ideal S2048x512 .bf16) (r : Fin 1024) (d : Fin 128) :
    k0_pay7 (F := Ideal) p w (ix3 0 r d) = headOf (k0_pay3 p w) 2 r d := by
  unfold k0_pay7; generalize k0_pay3 (F := Ideal) p w = z; pointwise [headOf]

theorem slice3_at (p : Vec Ideal S1024x2048 .bf16) (w : Vec Ideal S2048x512 .bf16) (r : Fin 1024) (d : Fin 128) :
    k0_pay8 (F := Ideal) p w (ix3 0 r d) = headOf (k0_pay3 p w) 3 r d := by
  unfold k0_pay8; generalize k0_pay3 (F := Ideal) p w = z; pointwise [headOf]

theorem rows_A (c : Dev nD) (t : Fin cfg0.N) (h : t.val % 9 = 0) :
    (outsAt0 m c t.val t.isLt).2.2 = k0_pay1 (F := Ideal) (iblk m c 0 t) (iblk m c 1 t) := by
  rw [outsAt0_A m c t h]
  unfold stA sout0_A_0
  dsimp only
  frame_out

theorem gated_A (c : Dev nD) (t : Fin cfg0.N) (h : t.val % 9 = 0) :
    (outsAt0 m c t.val t.isLt).2.1 = k0_pay2 (F := Ideal) (k0_pay1 (F := Ideal) (iblk m c 0 t) (iblk m c 1 t)) (iblk m c 3 t) (k0_pay1 (F := Ideal) (iblk m c 0 t) (iblk m c 1 t)) (iblk m c 4 t) := by
  rw [outsAt0_A m c t h]
  unfold stA out0_A_10
  dsimp only
  frame_out

/-- The value blocks: four heads of the product, as they are. -/
theorem heads_C (c : Dev nD) (t : Fin cfg0.N) (h : ¬t.val % 9 = 0) (h6 : ¬t.val % 9 < 6) (hd : Fin 4) (r : Fin 1024) (d : Fin 128) :
    (outsAt0 m c t.val t.isLt).1 (ix3 hd r d) = headOf (k0_pay3 (F := Ideal) (outsAt0 m c t.val t.isLt).2.2 (iblk m c 2 t)) hd r d := by
  rw [outsAt0_keep m c t h, outsAt0_C m c t h h6]
  generalize outsAt0 m c (t.val - 1) (Nat.lt_of_le_of_lt (Nat.sub_le _ _) t.isLt) = p
  generalize hy : ix3 hd r d = y
  have y0 : y 0 = hd := by rw [← hy]; rfl
  have y1 : y 1 = r := by rw [← hy]; rfl
  have y2 : y 2 = d := by rw [← hy]; rfl
  clear hy
  unfold stC out0_C_9
  dsimp only
  frame_out
  simp only [read_unread_whole]
  generalize iblk m c 2 t = w
  clear h
  canon_tiles x h
  · have e0 : hd = (3 : Fin 4) := y0.symm.trans (Fin.ext (h0.trans (show 3 + (x 0).val = 3 from by omega)))
    rw [e0, tile_ix x r d ((congrArg Fin.val y1).symm.trans h1) ((congrArg Fin.val y2).symm.trans h2)]
    exact slice3_at ..
  · have e0 : hd = (2 : Fin 4) := y0.symm.trans (Fin.ext (h0.trans (show 2 + (x 0).val = 2 from by omega)))
    rw [e0, tile_ix x r d ((congrArg Fin.val y1).symm.trans h1) ((congrArg Fin.val y2).symm.trans h2)]
    exact slice2_at ..
  · have e0 : hd = (1 : Fin 4) := y0.symm.trans (Fin.ext (h0.trans (show 1 + (x 0).val = 1 from by omega)))
    rw [e0, tile_ix x r d ((congrArg Fin.val y1).symm.trans h1) ((congrArg Fin.val y2).symm.trans h2)]
    exact slice1_at ..
  · have e0 : hd = (0 : Fin 4) := y0.symm.trans (Fin.ext (h0.trans (show (x 0).val = 0 from by omega)))
    rw [e0, tile_ix x r d ((congrArg Fin.val y1).symm.trans h1) ((congrArg Fin.val y2).symm.trans h2)]
    exact slice0_at ..

/-- The query and key blocks (the first of a row block): each head normed and turned. -/
theorem heads_A (c : Dev nD) (t : Fin cfg0.N) (h : t.val % 9 = 0) (hd : Fin 4) (r : Fin 1024) (d : Fin 128) :
    (outsAt0 m c t.val t.isLt).1 (ix3 hd r d) = turned (normed (headOf (k0_pay3 (F := Ideal) (outsAt0 m c t.val t.isLt).2.2 (iblk m c 2 t)) hd r)
      (laneOf (k0_pay9 (BitVec.ofNat 32 (grid0.coords t 1).val) (iblk m c 5 t) (iblk m c 6 t)))) (rowOf (iblk m c 7 t) r) (rowOf (iblk m c 8 t) r) d := by
  rw [rows_A m c t h, outsAt0_A m c t h]
  generalize hy : ix3 hd r d = y
  have y0 : y 0 = hd := by rw [← hy]; rfl
  have y1 : y 1 = r := by rw [← hy]; rfl
  have y2 : y 2 = d := by rw [← hy]; rfl
  clear hy
  unfold stA out0_A_9
  dsimp only
  frame_out
  clear h
  canon_tiles x h
  · have e0 : hd = (3 : Fin 4) := y0.symm.trans (Fin.ext (h0.trans (show 3 + (x 0).val = 3 from by omega)))
    rw [e0, tile_ix x r d ((congrArg Fin.val y1).symm.trans h1) ((congrArg Fin.val y2).symm.trans h2)]
    exact head3_at ..
  · have e0 : hd = (2 : Fin 4) := y0.symm.trans (Fin.ext (h0.trans (show 2 + (x 0).val = 2 from by omega)))
    rw [e0, tile_ix x r d ((congrArg Fin.val y1).symm.trans h1) ((congrArg Fin.val y2).symm.trans h2)]
    exact head2_at ..
  · have e0 : hd = (1 : Fin 4) := y0.symm.trans (Fin.ext (h0.trans (show 1 + (x 0).val = 1 from by omega)))
    rw [e0, tile_ix x r d ((congrArg Fin.val y1).symm.trans h1) ((congrArg Fin.val y2).symm.trans h2)]
    exact head1_at ..
  · have e0 : hd = (0 : Fin 4) := y0.symm.trans (Fin.ext (h0.trans (show (x 0).val = 0 from by omega)))
    rw [e0, tile_ix x r d ((congrArg Fin.val y1).symm.trans h1) ((congrArg Fin.val y2).symm.trans h2)]
    exact head0_at ..

/-- The query and key blocks (the later ones): each head normed and turned. -/
theorem heads_B (c : Dev nD) (t : Fin cfg0.N) (h : ¬t.val % 9 = 0) (h6 : t.val % 9 < 6) (hd : Fin 4) (r : Fin 1024) (d : Fin 128) :
    (outsAt0 m c t.val t.isLt).1 (ix3 hd r d) = turned (normed (headOf (k0_pay3 (F := Ideal) (outsAt0 m c t.val t.isLt).2.2 (iblk m c 2 t)) hd r)
      (laneOf (k0_pay9 (BitVec.ofNat 32 (grid0.coords t 1).val) (iblk m c 5 t) (iblk m c 6 t)))) (rowOf (iblk m c 7 t) r) (rowOf (iblk m c 8 t) r) d := by
  rw [outsAt0_keep m c t h, outsAt0_B m c t h h6]
  generalize outsAt0 m c (t.val - 1) (Nat.lt_of_le_of_lt (Nat.sub_le _ _) t.isLt) = p
  generalize hy : ix3 hd r d = y
  have y0 : y 0 = hd := by rw [← hy]; rfl
  have y1 : y 1 = r := by rw [← hy]; rfl
  have y2 : y 2 = d := by rw [← hy]; rfl
  clear hy
  unfold stB out0_B_9
  dsimp only
  frame_out
  simp only [read_unread_whole]
  clear h
  canon_tiles x h
  · have e0 : hd = (3 : Fin 4) := y0.symm.trans (Fin.ext (h0.trans (show 3 + (x 0).val = 3 from by omega)))
    rw [e0, tile_ix x r d ((congrArg Fin.val y1).symm.trans h1) ((congrArg Fin.val y2).symm.trans h2)]
    exact head3_at ..
  · have e0 : hd = (2 : Fin 4) := y0.symm.trans (Fin.ext (h0.trans (show 2 + (x 0).val = 2 from by omega)))
    rw [e0, tile_ix x r d ((congrArg Fin.val y1).symm.trans h1) ((congrArg Fin.val y2).symm.trans h2)]
    exact head2_at ..
  · have e0 : hd = (1 : Fin 4) := y0.symm.trans (Fin.ext (h0.trans (show 1 + (x 0).val = 1 from by omega)))
    rw [e0, tile_ix x r d ((congrArg Fin.val y1).symm.trans h1) ((congrArg Fin.val y2).symm.trans h2)]
    exact head1_at ..
  · have e0 : hd = (0 : Fin 4) := y0.symm.trans (Fin.ext (h0.trans (show (x 0).val = 0 from by omega)))
    rw [e0, tile_ix x r d ((congrArg Fin.val y1).symm.trans h1) ((congrArg Fin.val y2).symm.trans h2)]
    exact head0_at ..

end Cert.Kernel2Ideal.Hand
-- ==== Proof.Proj.Value.Host.lean ====
module

public import proofs.«01_k».proof.Defs
public import proofs.«01_k».proof.Proof.Proj.Value.Block
public import Idealize.ShloMosaic.Lib.Pipeline.ValueKit
public import proofs.«01_k».proof.Proof.Gen.Reference2Ideal.Read
public import Idealize.ShloMosaic.Lib.Pointwise

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen Cert.Kernel2Ideal.Proj
open Cert.Reference2Ideal.Read

variable (m : (ℓ : Loc nD τ sig) → Buf (Elt Ideal) ℓ)

/-! ## A block's heads, row by row -/

/-- The blocks' positions. -/
theorem idx : ∀ t : Fin cfg0.N, win0_0.index t = ![t.val / 9, 0] ∧ win0_1.index t = ![0, 0] ∧ win0_2.index t = ![0, t.val % 9]
    ∧ win0_3.index t = ![0, 9] ∧ win0_4.index t = ![0, 10] ∧ win0_5.index t = ![0, 0] ∧ win0_6.index t = ![0, 0]
    ∧ win0_7.index t = ![t.val / 9, 0] ∧ win0_8.index t = ![t.val / 9, 0] ∧ win0_9.index t = ![t.val % 9, t.val / 9, 0] ∧ win0_10.index t = ![t.val / 9, 0] :=
  (by decide +kernel : ∀ t : Fin grid0.N, _)

theorem t_lt (t : Fin cfg0.N) : t.val < 72 := t.isLt

/-- The row of the array that row `r` of a point's blocks is. -/
def row (t : Fin cfg0.N) (r : Fin 1024) : Fin 8192 := ⟨t.val / 9 * 1024 + r.val, by have := t_lt t; omega⟩

/-- The input. -/
abbrev argX (c : Dev nD) : FVec Ideal Cert.Reference2Ideal.S1x8192x2048 .f32 := m ((c : Thread nD τ).loc main_arg0)
/-- The norm's gain. -/
abbrev argN (c : Dev nD) : FVec Ideal Cert.Reference2Ideal.S2048 .f32 := m ((c : Thread nD τ).loc main_arg1)
/-- The weights. -/
abbrev argW (c : Dev nD) : FVec Ideal Cert.Reference2Ideal.S2048x5632 .f32 := m ((c : Thread nD τ).loc main_arg2)
/-- The queries' gain. -/
abbrev argQ (c : Dev nD) : FVec Ideal Cert.Reference2Ideal.S128 .f32 := m ((c : Thread nD τ).loc main_arg3)
/-- The keys' gain. -/
abbrev argK (c : Dev nD) : FVec Ideal Cert.Reference2Ideal.S128 .f32 := m ((c : Thread nD τ).loc main_arg4)

/-- The normed rows of a point's row block are the reference's. -/
theorem rows_at (c : Dev nD) (t : Fin cfg0.N) (r : Fin 1024) (k : Fin 2048) :
    k0_pay1 (F := Ideal) (iblk m c 0 t) (iblk m c 1 t) (ix2 r k) = val_main_v12 (F := Ideal) (argX m c) (argN m c) (ix3 0 (row t r) k) := by
  unfold_payloads
  pointwise [val_main_v12, val_main_v11, val_main_v10, val_main_v9, val_main_v8, val_main_v7, val_main_v6,
    val_main_v5, val_main_v4, val_main_v3, val_main_v2, val_main_v1, val_main_v0, val_main_cst, val_main_cst_0, val_main_cst_1, row]
  blk_point [iblk, V, idx t]

/-- A point's block of the weights. -/
theorem w_at (c : Dev nD) (t : Fin cfg0.N) (k : Fin 2048) (n : Fin 512) :
    (iblk m c 2 t : FVec Ideal S2048x512 .bf16) (ix2 k n) = argW m c (ix2 k ⟨t.val % 9 * 512 + n.val, by omega⟩) := by
  blk_point [iblk, V, idx t]

/-- The convolution's columns. -/
theorem wa_at (c : Dev nD) (t : Fin cfg0.N) (k : Fin 2048) (n : Fin 512) :
    (iblk m c 3 t : FVec Ideal S2048x512 .bf16) (ix2 k n) = argW m c (ix2 k ⟨4608 + n.val, by omega⟩) := by
  blk_point [iblk, V, idx t]

/-- The gate's columns. -/
theorem wg_at (c : Dev nD) (t : Fin cfg0.N) (k : Fin 2048) (n : Fin 512) :
    (iblk m c 4 t : FVec Ideal S2048x512 .bf16) (ix2 k n) = argW m c (ix2 k ⟨5120 + n.val, by omega⟩) := by
  blk_point [iblk, V, idx t]

theorem q_at (c : Dev nD) (t : Fin cfg0.N) (d : Fin 128) : (iblk m c 5 t : FVec Ideal S1x128 .f32) (ix2 0 d) = argQ m c (ix1 d) := by
  blk_point [iblk, V, idx t]

theorem k_at (c : Dev nD) (t : Fin cfg0.N) (d : Fin 128) : (iblk m c 6 t : FVec Ideal S1x128 .f32) (ix2 0 d) = argK m c (ix1 d) := by
  blk_point [iblk, V, idx t]

end Cert.Kernel2Ideal.Hand
-- ==== Proof.Proj.Value.Tables.lean ====
module

public import proofs.«01_k».proof.Defs
public import proofs.«01_k».proof.Proof.Proj.Value.Host
public import Idealize.ShloMosaic.Lib.Pipeline.ValueKit
public import proofs.«01_k».proof.Proof.Gen.Reference2Ideal.Read
public import Idealize.ShloMosaic.Lib.Pointwise

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Reference2Ideal.Read
open Cert.Kernel2Ideal Cert.Kernel2Ideal.Gen Cert.Kernel2Ideal.Proj

variable (m : (ℓ : Loc nD τ sig) → Buf (Elt Ideal) ℓ)

/-! ## A block's heads, row by row -/

/-- The angle of row `R`, pair `j`: the row over a power of 10000. -/
def ang (R j : ℕ) : EReal :=
  FloatOps.sitofp (F := Ideal) FTy.f32 (BitVec.ofNat 32 R) *
    Ideal.pow (Ideal.ofBits FTy.f32 1176256512#32) (Ideal.div (-FloatOps.sitofp (F := Ideal) FTy.f32 (BitVec.ofNat 32 j)) (Ideal.ofBits FTy.f32 1115684864#32))

/-- The reference's angles. -/
theorem ang_at (R : Fin 8192) (j : Fin 64) : val_main_v44 (F := Ideal) (ix2 R j) = ang R.val j.val := by
  pointwise [val_main_v44, val_main_v43, val_main_v42, val_main_v41, val_main_v40, val_main_v39, val_main_v38, val_main_v37, val_main_v36, val_main_v35, val_main_v34, val_main_v33, val_main_v13, ang,
    val_main_cst_5, val_main_cst_6]

theorem cos_pos (c : Dev nD) (t : Fin cfg0.N) (r : Fin 1024) (d : Fin 128) :
    (iblk m c 7 t : FVec Ideal S1024x128 .f32) (ix2 r d) = (V m c main_v17 : FVec Ideal S8192x128 .f32) (ix2 (row t r) d) := by
  unfold row iblk
  generalize V m c main_v17 = G
  blk_point [idx t]

theorem sin_pos (c : Dev nD) (t : Fin cfg0.N) (r : Fin 1024) (d : Fin 128) :
    (iblk m c 8 t : FVec Ideal S1024x128 .f32) (ix2 r d) = (V m c main_v19 : FVec Ideal S8192x128 .f32) (ix2 (row t r) d) := by
  unfold row iblk
  generalize V m c main_v19 = G
  blk_point [idx t]

/-- The cosines: both halves of a head read the same angles. -/
theorem cos_at (c : Dev nD) (R : Fin 8192) (d : Fin 128) :
    (V m c main_v17 : FVec Ideal S8192x128 .f32) (ix2 R d) = if d.val < 64 then Ideal.cos (ang R.val d.val) else Ideal.cos (ang R.val (d.val - 64)) := by
  unfold ang
  entry_read
  pointwise
  simp only [dite_eq_ite]

/-- The sines, the first half's turned around. -/
theorem sin_at (c : Dev nD) (R : Fin 8192) (d : Fin 128) :
    (V m c main_v19 : FVec Ideal S8192x128 .f32) (ix2 R d) = if d.val < 64 then -Ideal.sin (ang R.val d.val) else Ideal.sin (ang R.val (d.val - 64)) := by
  unfold ang
  entry_read
  pointwise
  simp only [dite_eq_ite]

end Cert.Kernel2Ideal.Hand
-- ==== Proof.Proj.Value.Ref.lean ====
module

public import proofs.«01_k».proof.Defs
public import proofs.«01_k».proof.Proof.Proj.Value.Tables
public import Idealize.ShloMosaic.Lib.Pipeline.ValueKit
public import proofs.«01_k».proof.Proof.Gen.Reference2Ideal.Read
public import Idealize.ShloMosaic.Lib.Pointwise

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Reference2Ideal.Read
open Cert.Kernel2Ideal Cert.Kernel2Ideal.Gen Cert.Kernel2Ideal.Proj

variable (x0 : FVec Ideal Cert.Reference2Ideal.S1x8192x2048 .f32) (x1 : FVec Ideal Cert.Reference2Ideal.S2048 .f32) (x2 : FVec Ideal Cert.Reference2Ideal.S2048x5632 .f32)
  (x3 x4 : FVec Ideal Cert.Reference2Ideal.S128 .f32)

/-! ## A block's heads, row by row -/

/-- The cosines a row's head is turned by. -/
def cosRow (R : Fin 8192) (d : Fin 128) : EReal := if d.val < 64 then Ideal.cos (ang R.val d.val) else Ideal.cos (ang R.val (d.val - 64))
/-- The sines a row's head is turned by, the first half's turned around. -/
def sinRow (R : Fin 8192) (d : Fin 128) : EReal := if d.val < 64 then -Ideal.sin (ang R.val d.val) else Ideal.sin (ang R.val (d.val - 64))

/-- Two turned halves side by side are the head turned. -/
theorem halves (lo hi : FVec Ideal Cert.Reference2Ideal.S1x8192x12x64 .f32) (R : Fin 8192) (H : Fin 12) (y : Fin 128 → EReal)
    (hl : ∀ j : Fin 64, lo (ix4 0 R H j) = y ⟨j.val, by omega⟩ * Ideal.cos (ang R.val j.val) - y ⟨64 + j.val, by omega⟩ * Ideal.sin (ang R.val j.val))
    (hh : ∀ j : Fin 64, hi (ix4 0 R H j) = y ⟨64 + j.val, by omega⟩ * Ideal.cos (ang R.val j.val) + y ⟨j.val, by omega⟩ * Ideal.sin (ang R.val j.val)) (d : Fin 128) :
    concatenate Cert.Reference2Ideal.S1x8192x12x128 3 [⟨Cert.Reference2Ideal.S1x8192x12x64, lo⟩, ⟨Cert.Reference2Ideal.S1x8192x12x64, hi⟩]
        Cert.Reference2Ideal.Gen.concatenates_S1x8192x12x64_S1x8192x12x64_S1x8192x12x128_d3 (ix4 0 R H d)
      = turned y (cosRow R) (sinRow R) d := by
  pointwise [turned, cosRow, sinRow, other]
  by_cases h : d.val < 64
  · simp only [h, dif_pos, if_pos]
    rw [hl]
    rw [mul_neg, ← sub_eq_add_neg]
    congr 2
    exact congrArg y (Fin.ext (show 64 + d.val = (d.val + 128 - 64) % 128 from by omega))
  · simp only [h, dif_neg, if_neg, not_false_eq_true]
    rw [hh]
    congr 2
    · exact congrArg y (Fin.ext (show 64 + (d.val - 64) = d.val from by omega))
    · exact congrArg y (Fin.ext (show d.val - 64 = (d.val + 128 - 64) % 128 from by omega))

/-- The reference's queries, normed. -/
theorem q_norm (R : Fin 8192) (H : Fin 12) (d : Fin 128) :
    val_main_v32 (F := Ideal) x0 x1 x2 x3 (ix4 0 R H d)
      = normed (fun e => val_main_v14 (F := Ideal) x0 x1 x2 (ix3 0 R ⟨H.val * 128 + e.val, by omega⟩)) (fun e => x3 (ix1 e)) d := by
  unfold val_main_v32 val_main_v31 val_main_v30 val_main_v29 val_main_v28 val_main_v27 val_main_v26 val_main_v25 val_main_v24 val_main_v23 val_main_v22 val_main_v21 val_main_v20 val_main_v19 val_main_v15
  generalize val_main_v14 (F := Ideal) x0 x1 x2 = z
  pointwise [normed, val_main_v32, val_main_v31, val_main_v30, val_main_v29, val_main_v28, val_main_v27, val_main_v26, val_main_v25, val_main_v24, val_main_v23, val_main_v22, val_main_v21, val_main_v20, val_main_cst_2, val_main_cst_3, val_main_cst_4]

theorem q_ang : val_main_v44 (F := Ideal) = val_main_v44 (F := Ideal) := rfl

/-- Its first half, turned. -/
theorem q_lo (R : Fin 8192) (H : Fin 12) (j : Fin 64) :
    val_main_v57 (F := Ideal) x0 x1 x2 x3 (ix4 0 R H j)
      = val_main_v32 (F := Ideal) x0 x1 x2 x3 (ix4 0 R H ⟨j.val, by omega⟩) * Ideal.cos (ang R.val j.val)
        - val_main_v32 (F := Ideal) x0 x1 x2 x3 (ix4 0 R H ⟨64 + j.val, by omega⟩) * Ideal.sin (ang R.val j.val) := by
  rw [← ang_at R j]
  unfold val_main_v57 val_main_v56 val_main_v55 val_main_v54 val_main_v53 val_main_v52 val_main_v51 val_main_v50 val_main_v49 val_main_v48 val_main_v47 val_main_v46 val_main_v45
  rw [q_ang]
  generalize val_main_v32 (F := Ideal) x0 x1 x2 x3 = y
  generalize val_main_v44 (F := Ideal) = a
  pointwise

/-- Its second half, turned. -/
theorem q_hi (R : Fin 8192) (H : Fin 12) (j : Fin 64) :
    val_main_v64 (F := Ideal) x0 x1 x2 x3 (ix4 0 R H j)
      = val_main_v32 (F := Ideal) x0 x1 x2 x3 (ix4 0 R H ⟨64 + j.val, by omega⟩) * Ideal.cos (ang R.val j.val)
        + val_main_v32 (F := Ideal) x0 x1 x2 x3 (ix4 0 R H ⟨j.val, by omega⟩) * Ideal.sin (ang R.val j.val) := by
  rw [← ang_at R j]
  unfold val_main_v64 val_main_v63 val_main_v62 val_main_v61 val_main_v60 val_main_v59 val_main_v58 val_main_v50 val_main_v49 val_main_v48 val_main_v47 val_main_v46 val_main_v45
  rw [q_ang]
  generalize val_main_v32 (F := Ideal) x0 x1 x2 x3 = y
  generalize val_main_v44 (F := Ideal) = a
  pointwise

/-- A whole head, turned: the two halves side by side. -/
theorem q_turned (R : Fin 8192) (H : Fin 12) (d : Fin 128) :
    val_main_v65 (F := Ideal) x0 x1 x2 x3 (ix4 0 R H d)
      = turned (normed (fun e => val_main_v14 (F := Ideal) x0 x1 x2 (ix3 0 R ⟨H.val * 128 + e.val, by omega⟩)) (fun e => x3 (ix1 e))) (cosRow R) (sinRow R) d := by
  have hn := q_norm x0 x1 x2 x3 R H
  have hl := q_lo x0 x1 x2 x3 R H
  have hh := q_hi x0 x1 x2 x3 R H
  unfold val_main_v65
  generalize normed (fun e => val_main_v14 (F := Ideal) x0 x1 x2 (ix3 0 R ⟨H.val * 128 + e.val, by omega⟩)) (fun e => x3 (ix1 e)) = y at hn ⊢
  simp only [hn] at hl hh
  generalize val_main_v57 (F := Ideal) x0 x1 x2 x3 = lo at hl ⊢
  generalize val_main_v64 (F := Ideal) x0 x1 x2 x3 = hi at hh ⊢
  exact halves lo hi R H y hl hh d

/-- The reference's keys, normed. -/
theorem k_norm (R : Fin 8192) (H : Fin 12) (d : Fin 128) :
    val_main_v79 (F := Ideal) x0 x1 x2 x4 (ix4 0 R H d)
      = normed (fun e => val_main_v14 (F := Ideal) x0 x1 x2 (ix3 0 R ⟨1536 + (H.val * 128 + e.val), by omega⟩)) (fun e => x4 (ix1 e)) d := by
  unfold val_main_v79 val_main_v78 val_main_v77 val_main_v76 val_main_v75 val_main_v74 val_main_v73 val_main_v72 val_main_v71 val_main_v70 val_main_v69 val_main_v68 val_main_v67 val_main_v66 val_main_v16
  generalize val_main_v14 (F := Ideal) x0 x1 x2 = z
  pointwise [normed, val_main_v79, val_main_v78, val_main_v77, val_main_v76, val_main_v75, val_main_v74, val_main_v73, val_main_v72, val_main_v71, val_main_v70, val_main_v69, val_main_v68, val_main_v67, val_main_cst_7, val_main_cst_8, val_main_cst_9]

theorem k_ang : val_main_v91 (F := Ideal) = val_main_v44 (F := Ideal) := rfl

/-- Its first half, turned. -/
theorem k_lo (R : Fin 8192) (H : Fin 12) (j : Fin 64) :
    val_main_v104 (F := Ideal) x0 x1 x2 x4 (ix4 0 R H j)
      = val_main_v79 (F := Ideal) x0 x1 x2 x4 (ix4 0 R H ⟨j.val, by omega⟩) * Ideal.cos (ang R.val j.val)
        - val_main_v79 (F := Ideal) x0 x1 x2 x4 (ix4 0 R H ⟨64 + j.val, by omega⟩) * Ideal.sin (ang R.val j.val) := by
  rw [← ang_at R j]
  unfold val_main_v104 val_main_v103 val_main_v102 val_main_v101 val_main_v100 val_main_v99 val_main_v98 val_main_v97 val_main_v96 val_main_v95 val_main_v94 val_main_v93 val_main_v92
  rw [k_ang]
  generalize val_main_v79 (F := Ideal) x0 x1 x2 x4 = y
  generalize val_main_v44 (F := Ideal) = a
  pointwise

/-- Its second half, turned. -/
theorem k_hi (R : Fin 8192) (H : Fin 12) (j : Fin 64) :
    val_main_v111 (F := Ideal) x0 x1 x2 x4 (ix4 0 R H j)
      = val_main_v79 (F := Ideal) x0 x1 x2 x4 (ix4 0 R H ⟨64 + j.val, by omega⟩) * Ideal.cos (ang R.val j.val)
        + val_main_v79 (F := Ideal) x0 x1 x2 x4 (ix4 0 R H ⟨j.val, by omega⟩) * Ideal.sin (ang R.val j.val) := by
  rw [← ang_at R j]
  unfold val_main_v111 val_main_v110 val_main_v109 val_main_v108 val_main_v107 val_main_v106 val_main_v105 val_main_v97 val_main_v96 val_main_v95 val_main_v94 val_main_v93 val_main_v92
  rw [k_ang]
  generalize val_main_v79 (F := Ideal) x0 x1 x2 x4 = y
  generalize val_main_v44 (F := Ideal) = a
  pointwise

/-- A whole head, turned: the two halves side by side. -/
theorem k_turned (R : Fin 8192) (H : Fin 12) (d : Fin 128) :
    val_main_v112 (F := Ideal) x0 x1 x2 x4 (ix4 0 R H d)
      = turned (normed (fun e => val_main_v14 (F := Ideal) x0 x1 x2 (ix3 0 R ⟨1536 + (H.val * 128 + e.val), by omega⟩)) (fun e => x4 (ix1 e))) (cosRow R) (sinRow R) d := by
  have hn := k_norm x0 x1 x2 x4 R H
  have hl := k_lo x0 x1 x2 x4 R H
  have hh := k_hi x0 x1 x2 x4 R H
  unfold val_main_v112
  generalize normed (fun e => val_main_v14 (F := Ideal) x0 x1 x2 (ix3 0 R ⟨1536 + (H.val * 128 + e.val), by omega⟩)) (fun e => x4 (ix1 e)) = y at hn ⊢
  simp only [hn] at hl hh
  generalize val_main_v104 (F := Ideal) x0 x1 x2 x4 = lo at hl ⊢
  generalize val_main_v111 (F := Ideal) x0 x1 x2 x4 = hi at hh ⊢
  exact halves lo hi R H y hl hh d

/-- The three groups of heads, stacked. -/
theorem v125_q (H : Fin 36) (R : Fin 8192) (d : Fin 128) (h : H.val < 12) :
    val_main_v125 (F := Ideal) x0 x1 x2 x3 x4 (ix3 H R d) = val_main_v65 (F := Ideal) x0 x1 x2 x3 (ix4 0 R ⟨H.val, h⟩ d) := by
  unfold val_main_v125 val_main_v124 val_main_v123
  generalize val_main_v65 (F := Ideal) x0 x1 x2 x3 = q
  generalize val_main_v112 (F := Ideal) x0 x1 x2 x4 = k
  generalize val_main_v113 (F := Ideal) x0 x1 x2 = v
  pointwise
  simp only [h, dif_pos]

theorem v125_k (H : Fin 36) (R : Fin 8192) (d : Fin 128) (h : ¬H.val < 12) (h' : H.val < 24) :
    val_main_v125 (F := Ideal) x0 x1 x2 x3 x4 (ix3 H R d) = val_main_v112 (F := Ideal) x0 x1 x2 x4 (ix4 0 R ⟨H.val - 12, by omega⟩ d) := by
  unfold val_main_v125 val_main_v124 val_main_v123
  generalize val_main_v65 (F := Ideal) x0 x1 x2 x3 = q
  generalize val_main_v112 (F := Ideal) x0 x1 x2 x4 = k
  generalize val_main_v113 (F := Ideal) x0 x1 x2 = v
  pointwise
  have h12 : H.val - 12 < 12 := by omega
  simp only [h, h12, dif_neg, dif_pos, not_false_eq_true]

theorem v125_v (H : Fin 36) (R : Fin 8192) (d : Fin 128) (h' : ¬H.val < 24) :
    val_main_v125 (F := Ideal) x0 x1 x2 x3 x4 (ix3 H R d) = val_main_v14 (F := Ideal) x0 x1 x2 (ix3 0 R ⟨H.val * 128 + d.val, by omega⟩) := by
  have h : ¬H.val < 12 := by omega
  unfold val_main_v125 val_main_v124 val_main_v123 val_main_v113 val_main_v17
  generalize val_main_v65 (F := Ideal) x0 x1 x2 x3 = q
  generalize val_main_v112 (F := Ideal) x0 x1 x2 x4 = k
  generalize val_main_v14 (F := Ideal) x0 x1 x2 = v
  pointwise
  have h12 : ¬H.val - 12 < 12 := by omega
  simp only [h, h12, dif_neg, not_false_eq_true]
  have e : (⟨3072 + ((H.val - 12 - 12) * 128 + d.val), by omega⟩ : Fin 5632) = ⟨H.val * 128 + d.val, by omega⟩ := Fin.ext (show 3072 + ((H.val - 12 - 12) * 128 + d.val) = H.val * 128 + d.val from by omega)
  exact congrArg (fun x => v (ix3 0 R x)) e

/-- The gated convolution input. -/
theorem v126_at (R : Fin 8192) (n : Fin 512) :
    val_main_v126 (F := Ideal) x0 x1 x2 (ix2 R n)
      = val_main_v14 (F := Ideal) x0 x1 x2 (ix3 0 R ⟨4608 + n.val, by omega⟩) * Ideal.logistic (val_main_v14 (F := Ideal) x0 x1 x2 (ix3 0 R ⟨5120 + n.val, by omega⟩)) := by
  unfold val_main_v126 val_main_v122 val_main_v121 val_main_v120 val_main_v119 val_main_v118 val_main_v117 val_main_v116 val_main_v115 val_main_v114 val_main_v18
  generalize val_main_v14 (F := Ideal) x0 x1 x2 = z
  pointwise [val_main_cst_12, val_main_cst_13, Ideal.logistic]
  have e : (⟨4608 + (512 + n.val), by omega⟩ : Fin 5632) = ⟨5120 + n.val, by omega⟩ := Fin.ext (show 4608 + (512 + n.val) = 5120 + n.val from by omega)
  exact congrArg (fun x => z (ix3 0 R ⟨4608 + n.val, by omega⟩) * Ideal.div 1 (1 + Ideal.exp (-z (ix3 0 R x)))) e

/-- The product before anything else is made of it. -/
theorem v14_at (R : Fin 8192) (col : Fin 5632) :
    val_main_v14 (F := Ideal) x0 x1 x2 (ix3 0 R col) = ∑ k : Fin 2048, val_main_v12 (F := Ideal) x0 x1 (ix3 0 R k) * x2 (ix2 k col) := by
  unfold val_main_v14
  generalize val_main_v12 (F := Ideal) x0 x1 = y
  pointwise

end Cert.Kernel2Ideal.Hand
-- ==== Proof.Proj.Value.Final.lean ====
module

public import proofs.«01_k».proof.Defs
public import proofs.«01_k».proof.Proof.Proj.Value.Ref
public import Idealize.ShloMosaic.Lib.Pipeline.ValueKit
public import proofs.«01_k».proof.Proof.Gen.Reference2Ideal.Read
public import proofs.«01_k».proof.Proof.Gen.Reference2Ideal.Run
public import Idealize.ShloMosaic.Lib.Pointwise

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Reference2Ideal.Read
open Cert.Kernel2Ideal Cert.Kernel2Ideal.Gen Cert.Kernel2Ideal.Proj

variable (m : (ℓ : Loc nD τ sig) → Buf (Elt Ideal) ℓ)

/-! ## A block's heads, row by row -/

/-! ## What the kernel's buffers hold, as the reference's arrays -/

/-- The scratch holds the normed rows of the point's row block. -/
theorem rows_all (c : Dev nD) : ∀ (n : ℕ) (hn : n < cfg0.N) (r : Fin 1024) (k : Fin 2048),
    (outsAt0 m c n hn).2.2 (ix2 r k) = val_main_v12 (F := Ideal) (argX m c) (argN m c) (ix3 0 (row ⟨n, hn⟩ r) k)
  | 0, hn, r, k => by
    have e := rows_A m c ⟨0, hn⟩ (Nat.zero_mod _)
    exact (congrFun e _).trans (rows_at m c ⟨0, hn⟩ r k)
  | n + 1, hn, r, k => by
    by_cases h : (n + 1) % 9 = 0
    · have e := rows_A m c ⟨n + 1, hn⟩ h
      exact (congrFun e _).trans (rows_at m c ⟨n + 1, hn⟩ r k)
    · have e := outsAt0_keep m c ⟨n + 1, hn⟩ h
      have hrow : row ⟨n, Nat.lt_of_succ_lt hn⟩ r = row ⟨n + 1, hn⟩ r :=
        Fin.ext (show n / 9 * 1024 + r.val = (n + 1) / 9 * 1024 + r.val from by omega)
      exact (congrFun (congrArg Prod.snd e) _).trans ((rows_all c n (Nat.lt_of_succ_lt hn) r k).trans (by rw [hrow]))

/-- A product's entry. -/
theorem prod_at (p : Vec Ideal S1024x2048 .bf16) (w : Vec Ideal S2048x512 .bf16) (r : Fin 1024) (n : Fin 512) :
    k0_pay3 (F := Ideal) p w (ix2 r n) = ∑ k : Fin 2048, p (ix2 r k) * w (ix2 k n) := by
  unfold_payloads
  pointwise

/-- The gated product's entry. -/
theorem gate_at (p : Vec Ideal S1024x2048 .bf16) (wa wg : Vec Ideal S2048x512 .bf16) (r : Fin 1024) (n : Fin 512) :
    k0_pay2 (F := Ideal) p wa p wg (ix2 r n) = (∑ k : Fin 2048, p (ix2 r k) * wa (ix2 k n)) * Ideal.logistic (∑ k : Fin 2048, p (ix2 r k) * wg (ix2 k n)) := by
  unfold_payloads
  pointwise

/-- The gated block holds the reference's convolution input. -/
theorem gated_all (c : Dev nD) : ∀ (n : ℕ) (hn : n < cfg0.N) (r : Fin 1024) (k : Fin 512),
    (outsAt0 m c n hn).2.1 (ix2 r k) = val_main_v126 (F := Ideal) (argX m c) (argN m c) (argW m c) (ix2 (row ⟨n, hn⟩ r) k) := by
  have first : ∀ (t : Fin cfg0.N) (h : t.val % 9 = 0) (r : Fin 1024) (k : Fin 512),
      (outsAt0 m c t.val t.isLt).2.1 (ix2 r k) = val_main_v126 (F := Ideal) (argX m c) (argN m c) (argW m c) (ix2 (row t r) k) := by
    intro t h r k
    rw [gated_A m c t h, gate_at, v126_at, v14_at, v14_at]
    refine congr (congrArg _ (Finset.sum_congr rfl fun x _ => ?_)) (congrArg _ (Finset.sum_congr rfl fun x _ => ?_))
    · exact congr (congrArg _ (rows_at m c t r x)) (wa_at m c t x k)
    · exact congr (congrArg _ (rows_at m c t r x)) (wg_at m c t x k)
  intro n
  induction n with
  | zero => intro hn r k; exact first ⟨0, hn⟩ (Nat.zero_mod _) r k
  | succ n ih =>
    intro hn r k
    by_cases h : (n + 1) % 9 = 0
    · exact first ⟨n + 1, hn⟩ h r k
    · have e := outsAt0_keep m c ⟨n + 1, hn⟩ h
      have hrow : row ⟨n, Nat.lt_of_succ_lt hn⟩ r = row ⟨n + 1, hn⟩ r :=
        Fin.ext (show n / 9 * 1024 + r.val = (n + 1) / 9 * 1024 + r.val from by omega)
      exact (congrFun (congrArg Prod.fst e) _).trans ((ih (Nat.lt_of_succ_lt hn) r k).trans (by rw [hrow]))

/-- The head of the array that head `h` of a point's block is. -/
def head (t : Fin cfg0.N) (h : Fin 4) : Fin 36 := ⟨t.val % 9 * 4 + h.val, by omega⟩

/-- A head of the point's product is the reference's. -/
theorem headOf_at (c : Dev nD) (t : Fin cfg0.N) (h : Fin 4) (r : Fin 1024) (d : Fin 128) :
    headOf (k0_pay3 (F := Ideal) (outsAt0 m c t.val t.isLt).2.2 (iblk m c 2 t)) h r d
      = val_main_v14 (F := Ideal) (argX m c) (argN m c) (argW m c) (ix3 0 (row t r) ⟨(head t h).val * 128 + d.val, by have := (head t h).isLt; omega⟩) := by
  unfold headOf
  rw [prod_at, v14_at]
  refine Finset.sum_congr rfl fun x _ => ?_
  refine congr (congrArg _ (rows_all m c t.val t.isLt r x)) ((w_at m c t x _).trans ?_)
  exact congrArg (fun z => argW m c (ix2 x z)) (Fin.ext (show t.val % 9 * 512 + (h.val * 128 + d.val) = (t.val % 9 * 4 + h.val) * 128 + d.val from by omega))

theorem isQ : ∀ t : Fin cfg0.N, t.val % 9 < 3 → Scalar.cmpi .slt (BitVec.ofNat 32 (grid0.coords t 1).val) 3#32 = 1#1 :=
  (by decide +kernel : ∀ t : Fin grid0.N, t.val % 9 < 3 → Scalar.cmpi .slt (BitVec.ofNat 32 (grid0.coords t 1).val) 3#32 = 1#1)

theorem isK : ∀ t : Fin cfg0.N, ¬t.val % 9 < 3 → Scalar.cmpi .slt (BitVec.ofNat 32 (grid0.coords t 1).val) 3#32 = 0#1 :=
  (by decide +kernel : ∀ t : Fin grid0.N, ¬t.val % 9 < 3 → Scalar.cmpi .slt (BitVec.ofNat 32 (grid0.coords t 1).val) 3#32 = 0#1)

theorem gainQ (a : BitVec 32) (q k : Vec Ideal S1x128 .f32) (ha : Scalar.cmpi .slt a 3#32 = 1#1) : laneOf (k0_pay9 (F := Ideal) a q k) = laneOf q := by
  unfold k0_pay9
  rw [ha]
  funext d
  pointwise [laneOf]

theorem gainK (a : BitVec 32) (q k : Vec Ideal S1x128 .f32) (ha : Scalar.cmpi .slt a 3#32 = 0#1) : laneOf (k0_pay9 (F := Ideal) a q k) = laneOf k := by
  unfold k0_pay9
  rw [ha]
  funext d
  pointwise [laneOf]

theorem cosRow_at (c : Dev nD) (t : Fin cfg0.N) (r : Fin 1024) : rowOf (iblk m c 7 t) r = cosRow (row t r) :=
  funext fun d => (cos_pos m c t r d).trans (cos_at m c (row t r) d)

theorem sinRow_at (c : Dev nD) (t : Fin cfg0.N) (r : Fin 1024) : rowOf (iblk m c 8 t) r = sinRow (row t r) :=
  funext fun d => (sin_pos m c t r d).trans (sin_at m c (row t r) d)

/-- The heads a point leaves are the reference's. -/
theorem heads_all (c : Dev nD) (t : Fin cfg0.N) (h : Fin 4) (r : Fin 1024) (d : Fin 128) :
    (outsAt0 m c t.val t.isLt).1 (ix3 h r d)
      = val_main_v125 (F := Ideal) (argX m c) (argN m c) (argW m c) (argQ m c) (argK m c) (ix3 (head t h) (row t r) d) := by
  have hv : (head t h).val = t.val % 9 * 4 + h.val := rfl
  by_cases h6 : t.val % 9 < 6
  · have hk : (outsAt0 m c t.val t.isLt).1 (ix3 h r d) = turned (normed (headOf (k0_pay3 (F := Ideal) (outsAt0 m c t.val t.isLt).2.2 (iblk m c 2 t)) h r)
        (laneOf (k0_pay9 (BitVec.ofNat 32 (grid0.coords t 1).val) (iblk m c 5 t) (iblk m c 6 t)))) (rowOf (iblk m c 7 t) r) (rowOf (iblk m c 8 t) r) d := by
      by_cases h0 : t.val % 9 = 0
      · exact heads_A m c t h0 h r d
      · exact heads_B m c t h0 h6 h r d
    rw [hk, cosRow_at, sinRow_at]
    have hz := funext (headOf_at m c t h r)
    by_cases h3 : t.val % 9 < 3
    · have hq : (head t h).val < 12 := by omega
      have hg := funext (q_at m c t)
      rw [gainQ _ _ _ (isQ t h3), hz, v125_q _ _ _ _ _ _ _ _ hq, q_turned]
      exact congrArg (fun g => turned (normed _ g) _ _ d) hg
    · have hq : ¬(head t h).val < 12 := by omega
      have hq' : (head t h).val < 24 := by omega
      have hg := funext (k_at m c t)
      rw [gainK _ _ _ (isK t h3), hz, v125_k _ _ _ _ _ _ _ _ hq hq', k_turned]
      refine (congrArg (fun g => turned (normed _ g) _ _ d) hg).trans (congrArg (fun y => turned (normed y _) _ _ d) (funext fun e => ?_))
      exact congrArg (fun z => val_main_v14 (F := Ideal) (argX m c) (argN m c) (argW m c) (ix3 0 (row t r) z))
        (Fin.ext (show (head t h).val * 128 + e.val = 1536 + (((head t h).val - 12) * 128 + e.val) from by omega))
  · have h0 : ¬t.val % 9 = 0 := by omega
    have hq' : ¬(head t h).val < 24 := by omega
    rw [heads_C m c t h0 h6, headOf_at, v125_v _ _ _ _ _ _ _ _ hq']

/-! ## The kernel's two arrays -/

theorem emb9 (G : FVec Ideal S36x8192x128 .f32) (t : Fin cfg0.N) (h : Fin 4) (r : Fin 1024) (d : Fin 128) :
    G ((win0_9.blk t).view.emb (ix3 h r d)) = G (ix3 (head t h) (row t r) d) := by
  unfold head row
  blk_point [idx t]

theorem emb10 (G : FVec Ideal S8192x512 .f32) (t : Fin cfg0.N) (r : Fin 1024) (n : Fin 512) :
    G ((win0_10.blk t).view.emb (ix2 r n)) = G (ix2 (row t r) n) := by
  unfold row
  blk_point [idx t]

theorem final9 (c : Dev nD) : (dats m 0 c).arrAt 9 (cfgs 0).N
    = val_main_v125 (F := Ideal) (argX m c) (argN m c) (argW m c) (argQ m c) (argK m c) := by
  refine (dats m 0 c).arrAt_eq_of_covers 9 _ (by decide +kernel) fun t hf y => ?_
  have hy := heads_all m c t
  generalize val_main_v125 (F := Ideal) (argX m c) (argN m c) (argW m c) (argQ m c) (argK m c) = G at hy ⊢
  blk_simp
  rw [after0_9]
  exact (congrArg _ (eq_ix3 y)).trans (((hy _ _ _).trans (emb9 G t _ _ _).symm).trans (congrArg (fun z => G ((win0_9.blk t).view.emb z)) (eq_ix3 y).symm))

theorem final10 (c : Dev nD) : (dats m 0 c).arrAt 10 (cfgs 0).N
    = val_main_v126 (F := Ideal) (argX m c) (argN m c) (argW m c) := by
  refine (dats m 0 c).arrAt_eq_of_covers 10 _ (by decide +kernel) fun t hf y => ?_
  have hy := gated_all m c t.val t.isLt
  generalize val_main_v126 (F := Ideal) (argX m c) (argN m c) (argW m c) = G at hy ⊢
  blk_simp
  rw [after0_10]
  exact (congrArg _ (eq_ix2 y)).trans (((hy _ _).trans (emb10 G t _ _).symm).trans (congrArg (fun z => G ((win0_10.blk t).view.emb z)) (eq_ix2 y).symm))

/-- Every run of the kernel ends with the two arrays the pipeline leaves, the arguments as they were. -/
theorem run_blocks (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23_0) = (dats m 0 c).arrAt 9 cfg0.N
      ∧ r.2.mem ((c.tc : Thread nD τ).loc main_v23_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1 9, (h c).1 10,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

/-- The input projection: the kernel's two arrays are the reference's. -/
theorem algebraic : Cert.algebraic_Kernel2Ideal_Reference2Ideal := by
  intro m ρ m' ρ' _ hagree
  refine ⟨_, _, (θ_run defs _ _).mono (fun r h c => ⟨(h c).1.trans (final9 m c), (h c).2.1.trans (final10 m c), (h c).2.2⟩) (run_blocks m ρ), ?_⟩
  refine (θ_run Cert.Reference2Ideal.defs _ _).mono (fun r h c => ⟨(h c).1.trans ?_, (h c).2.1.trans ?_, (h c).2.2⟩) (Cert.Reference2Ideal.Value.run m' ρ')
  · unfold argX argN argW argQ argK
    rw [← (hagree c).1, ← (hagree c).2.1, ← (hagree c).2.2.1, ← (hagree c).2.2.2.1, ← (hagree c).2.2.2.2]
    exact val_main_v125_eq m' c
  · unfold argX argN argW
    rw [← (hagree c).1, ← (hagree c).2.1, ← (hagree c).2.2.1]
    exact val_main_v126_eq ..

end Cert.Kernel2Ideal.Hand
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel4.Frame
public import proofs.«01_k».proof.Proof.Gen.Kernel4Ideal.Frame
public import proofs.«01_k».proof.Proof.Gen.ReferenceIdeal.Run
public import proofs.«01_k».proof.Proof.Gen.Kernel2.Frame
public import proofs.«01_k».proof.Proof.Gen.Kernel2.Skeleton
public import proofs.«01_k».proof.Proof.Gen.Kernel2Ideal.Skeleton
public import proofs.«01_k».proof.Proof.Gen.Kernel2Ideal.Frame
public import proofs.«01_k».proof.Proof.Gen.Reference2Ideal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_mix
public import proofs.«01_k».proof.Proof.Gen.Reference4Ideal.Run
public import proofs.«01_k».proof.Proof.Gen.Pre_finite_qkv
public import proofs.«01_k».proof.Proof.Attn.Final
public import proofs.«01_k».proof.Proof.Mem.Kv
public import proofs.«01_k».proof.Proof.Mix.Final
public import proofs.«01_k».proof.Proof.Proj.Kernel2.Frame
public import proofs.«01_k».proof.Proof.Proj.Value.Final
public import Idealize.ShloMosaic.Adequacy
public import Idealize.ShloMosaic.Init

@[expose] public section

noncomputable section

namespace Cert.Proof

open Idealize.ShloMosaic Idealize.SL.Sem

theorem frame_ref : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run m ρ)

theorem frame_ref2 : Cert.quiescent_Reference2Ideal := fun m ρ _ =>
  (θ_run Cert.Reference2Ideal.defs _ _).mono (fun r h => ⟨fun c => (h c).2.2, Idealize.ShloMosaic.sem_eq_zero_of_no_sems (by decide) r.2⟩)
    (Cert.Reference2Ideal.Value.run m ρ)

theorem frame_ref3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run m ρ)

theorem frame_ref4 : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Pre_finite_qkv.Gen.facts, Cert.Pre_finite_mix.Gen.facts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.Kernel2.Proj.frame m ρ,
    fun m ρ _ => Cert.Kernel2Ideal.Proj.frame m ρ,
    frame_ref2,
    fun m ρ _ => Cert.Kernel3.Gen.frame m ρ,
    fun m ρ _ => Cert.Kernel3Ideal.Gen.frame m ρ,
    fun m ρ _ => Cert.Kernel3Ideal.Gen.frame m ρ,
    frame_ref3,
    fun m ρ _ => frame_ref3 m ρ trivial,
    fun m ρ _ => Cert.Kernel4.Gen.frame m ρ,
    fun m ρ _ => Cert.Kernel4Ideal.Gen.frame m ρ,
    frame_ref4,
    trivial,
    Cert.KernelIdeal.Hand.algebraic,
    trivial,
    Cert.Kernel2Ideal.Hand.algebraic,
    trivial,
    Cert.Kernel3Ideal.Hand.algebraic,
    trivial,
    Cert.Kernel4Ideal.Hand.algebraic⟩

end Cert.Proof

end
